-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x16384x8x96 : Shape := ⟨4, ![2, 16384, 8, 96]⟩
abbrev S2x16384x8x64 : Shape := ⟨4, ![2, 16384, 8, 64]⟩
abbrev S_ : Shape := ⟨0, ![]⟩

class Facts : Prop where
  bcast_S_S2x16384x8x96 : S_.BroadcastsInDim S2x16384x8x96 (![] : Fin 0 → Fin S2x16384x8x96.rank)

variable [Facts]

def fn {F : FTy → Type} [FloatOps F] (main_arg0 : FVec F S2x16384x8x96 .f32) (main_arg1 : FVec F S2x16384x8x96 .f32) (main_arg2 : FVec F S2x16384x8x64 .f32) : IVec S2x16384x8x96 1 :=
  let main_v0 : FVec F S2x16384x8x96 .f32 := Host.absf main_arg0
  let main_cst : FVec F S_ .f32 := constant S_ .f32 0x7F800000#32
  let main_v1 : FVec F S2x16384x8x96 .f32 := broadcastInDim S2x16384x8x96 ![] bcast_S_S2x16384x8x96 main_cst
  let main_v2 : IVec S2x16384x8x96 1 := cmpf .olt main_v0 main_v1
  let main_v3 : FVec F S2x16384x8x96 .f32 := Host.absf main_arg1
  let main_cst_0 : FVec F S_ .f32 := constant S_ .f32 0x7F800000#32
  let main_v4 : FVec F S2x16384x8x96 .f32 := broadcastInDim S2x16384x8x96 ![] bcast_S_S2x16384x8x96 main_cst_0
  let main_v5 : IVec S2x16384x8x96 1 := cmpf .olt main_v3 main_v4
  let main_v6 : IVec S2x16384x8x96 1 := andi main_v2 main_v5
  main_v6
-- ==== Kernel.lean ====
abbrev S2x16384x8x96 : Shape := ⟨4, ![2, 16384, 8, 96]⟩
abbrev S2x16384x8x64 : Shape := ⟨4, ![2, 16384, 8, 64]⟩
abbrev S_ : Shape := ⟨0, ![]⟩
abbrev S2x16384x8x32 : Shape := ⟨4, ![2, 16384, 8, 32]⟩
abbrev S2x16384x8x128 : Shape := ⟨4, ![2, 16384, 8, 128]⟩
abbrev S2x32x512x8x128 : Shape := ⟨5, ![2, 32, 512, 8, 128]⟩
abbrev S2x8x32x128x512 : Shape := ⟨5, ![2, 8, 32, 128, 512]⟩
abbrev S2x8x16384x128 : Shape := ⟨4, ![2, 8, 16384, 128]⟩
abbrev S2x16384x8x1 : Shape := ⟨4, ![2, 16384, 8, 1]⟩
abbrev S2x16384x8x15 : Shape := ⟨4, ![2, 16384, 8, 15]⟩
abbrev S2x16384x8x80 : Shape := ⟨4, ![2, 16384, 8, 80]⟩
abbrev S2x8x2048x8x80 : Shape := ⟨5, ![2, 8, 2048, 8, 80]⟩
abbrev S2x8x8x80x2048 : Shape := ⟨5, ![2, 8, 8, 80, 2048]⟩
abbrev S2x16384x512 : Shape := ⟨3, ![2, 16384, 512]⟩
abbrev S1x2x32x128x512 : Shape := ⟨5, ![1, 2, 32, 128, 512]⟩
abbrev S1x2x16384x128 : Shape := ⟨4, ![1, 2, 16384, 128]⟩
abbrev S1x2x8x80x2048 : Shape := ⟨5, ![1, 2, 8, 80, 2048]⟩
abbrev S1x512x128 : Shape := ⟨3, ![1, 512, 128]⟩
abbrev S2x2x2048x512 : Shape := ⟨4, ![2, 2, 2048, 512]⟩
abbrev S2x80x512 : Shape := ⟨3, ![2, 80, 512]⟩
abbrev S2x2x1x512 : Shape := ⟨4, ![2, 2, 1, 512]⟩
abbrev S1x1x2048x128 : Shape := ⟨4, ![1, 1, 2048, 128]⟩
abbrev S2048x128 : Shape := ⟨2, ![2048, 128]⟩
abbrev S1x1x1x128x512 : Shape := ⟨5, ![1, 1, 1, 128, 512]⟩
abbrev S128x512 : Shape := ⟨2, ![128, 512]⟩
abbrev S2048x512 : Shape := ⟨2, ![2048, 512]⟩
abbrev S1x1x2048x512 : Shape := ⟨4, ![1, 1, 2048, 512]⟩
abbrev S32x512 : Shape := ⟨2, ![32, 512]⟩
abbrev S512 : Shape := ⟨1, ![512]⟩
abbrev S1x512 : Shape := ⟨2, ![1, 512]⟩
abbrev S1x1x1x512 : Shape := ⟨4, ![1, 1, 1, 512]⟩
abbrev S80x512 : Shape := ⟨2, ![80, 512]⟩
abbrev S1x80x512 : Shape := ⟨3, ![1, 80, 512]⟩
abbrev S1x1x32x512 : Shape := ⟨4, ![1, 1, 32, 512]⟩
abbrev S1x1x1x80x2048 : Shape := ⟨5, ![1, 1, 1, 80, 2048]⟩
abbrev S80x2048 : Shape := ⟨2, ![80, 2048]⟩
abbrev S32x2048 : Shape := ⟨2, ![32, 2048]⟩
abbrev S112x2048 : Shape := ⟨2, ![112, 2048]⟩
abbrev S112x512 : Shape := ⟨2, ![112, 512]⟩
abbrev S64x512 : Shape := ⟨2, ![64, 512]⟩
abbrev S512x128 : Shape := ⟨2, ![512, 128]⟩

abbrev nBuf : Space → Nat
  | .hbm => 32
  | .vmem => 9
  | .smem => 0
  | _ => 0

abbrev bufTy : (tb : Table) → Fin (tcTables nBuf tb) → BufTy
  | .hbm, ⟨0, _⟩ => ⟨S2x16384x8x96, .f32⟩
  | .hbm, ⟨1, _⟩ => ⟨S2x16384x8x96, .f32⟩
  | .hbm, ⟨2, _⟩ => ⟨S2x16384x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16384x8x96, .f32⟩
  | .hbm, ⟨11, _⟩ => ⟨S2x16384x8x96, .f32⟩
  | .hbm, ⟨12, _⟩ => ⟨S_, .f32⟩
  | .hbm, ⟨13, _⟩ => ⟨S2x16384x8x32, .f32⟩
  | .hbm, ⟨14, _⟩ => ⟨S2x16384x8x128, .f32⟩
  | .hbm, ⟨15, _⟩ => ⟨S2x32x512x8x128, .f32⟩
  | .hbm, ⟨16, _⟩ => ⟨S2x8x32x128x512, .f32⟩
  | .hbm, ⟨17, _⟩ => ⟨S2x8x32x128x512, .bf16⟩
  | .hbm, ⟨18, _⟩ => ⟨S_, .f32⟩
  | .hbm, ⟨19, _⟩ => ⟨S2x16384x8x32, .f32⟩
  | .hbm, ⟨20, _⟩ => ⟨S2x16384x8x128, .f32⟩
  | .hbm, ⟨21, _⟩ => ⟨S2x8x16384x128, .f32⟩
  | .hbm, ⟨22, _⟩ => ⟨S2x8x16384x128, .bf16⟩
  | .hbm, ⟨23, _⟩ => ⟨S_, .f32⟩
  | .hbm, ⟨24, _⟩ => ⟨S2x16384x8x1, .f32⟩
  | .hbm, ⟨25, _⟩ => ⟨S_, .f32⟩
  | .hbm, ⟨26, _⟩ => ⟨S2x16384x8x15, .f32⟩
  | .hbm, ⟨27, _⟩ => ⟨S2x16384x8x80, .f32⟩
  | .hbm, ⟨28, _⟩ => ⟨S2x8x2048x8x80, .f32⟩
  | .hbm, ⟨29, _⟩ => ⟨S2x8x8x80x2048, .f32⟩
  | .hbm, ⟨30, _⟩ => ⟨S2x8x8x80x2048, .bf16⟩
  | .hbm, ⟨31, _⟩ => ⟨S2x16384x512, .bf16⟩
  | .local _ .vmem, ⟨0, _⟩ => ⟨S1x2x32x128x512, .bf16⟩
  | .local _ .vmem, ⟨1, _⟩ => ⟨S1x2x16384x128, .bf16⟩
  | .local _ .vmem, ⟨2, _⟩ => ⟨S1x2x8x80x2048, .bf16⟩
  | .local _ .vmem, ⟨3, _⟩ => ⟨S1x512x128, .bf16⟩
  | .local _ .vmem, ⟨4, _⟩ => ⟨S1x512x128, .bf16⟩
  | .local _ .vmem, ⟨5, _⟩ => ⟨S2x2x2048x512, .f32⟩
  | .local _ .vmem, ⟨6, _⟩ => ⟨S2x2x2048x512, .bf16⟩
  | .local _ .vmem, ⟨7, _⟩ => ⟨S2x80x512, .f32⟩
  | .local _ .vmem, ⟨8, _⟩ => ⟨S2x2x1x512, .f32⟩
  | _, _ => ⟨S2x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨3, ![2, 4, 33], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_0 : BitVec 32 := 0#32
  let v3 : BitVec 1 := Scalar.cmpi .ne v2 c0_i32_0
  v3

def k0_mult1 : BitVec 32 :=
  let c0_i32_36 : BitVec 32 := 0#32
  c0_i32_36
def k0_mult2 : BitVec 32 :=
  let c0_i32_69 : BitVec 32 := 0#32
  c0_i32_69
@[reducible] def k0_t1_loop (i : grid0.Coords) : Scf.Loop 32 :=
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_18 : BitVec 32 := 1#32
  ⟨c0_i32_16, v20, c1_i32_18⟩
def k0_cond2 (i : grid0.Coords) (k0_t1 : Fin (k0_t1_loop i).trips) : BitVec 1 :=
  let c0_i32_16 : BitVec 32 := 0#32
  let c1_i32_18 : BitVec 32 := 1#32
  let arg11 : BitVec 32 := Scf.iv c0_i32_16 c1_i32_18 k0_t1
  let c2_i32 : BitVec 32 := 2#32
  let c0_i32_36 : BitVec 32 := 0#32
  let v35 : BitVec 1 := Scalar.cmpi .eq c2_i32 c0_i32_36
  let c1_i32_37 : BitVec 32 := 1#32
  let v36 : BitVec 32 := Scalar.select v35 c1_i32_37 c2_i32
  let v37 : BitVec 32 := Scalar.remsi arg11 v36
  let c0_i32_39 : BitVec 32 := 0#32
  let v39 : BitVec 1 := Scalar.cmpi .slt v37 c0_i32_39
  let c0_i32_40 : BitVec 32 := 0#32
  let v40 : BitVec 1 := Scalar.cmpi .slt v36 c0_i32_40
  let v41 : BitVec 1 := Scalar.xori v39 v40
  let c0_i32_38 : BitVec 32 := 0#32
  let v38 : BitVec 1 := Scalar.cmpi .ne v37 c0_i32_38
  let v42 : BitVec 1 := Scalar.andi v41 v38
  let v43 : BitVec 32 := Scalar.addi v37 v36
  let v44 : BitVec 32 := Scalar.select v42 v43 v37
  let c0_i32_41 : BitVec 32 := 0#32
  let v45 : BitVec 1 := Scalar.cmpi .eq v44 c0_i32_41
  let v46 : BitVec 32 := Scalar.extui v45
  let c0_i32_42 : BitVec 32 := 0#32
  let v47 : BitVec 1 := Scalar.cmpi .ne v46 c0_i32_42
  v47

def k0_mult3 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32 : BitVec 32 := 2048#32
  let v64 : BitVec 32 := Scalar.muli v60 c2048_i32
  v64
def k0_off1 (i : grid0.Coords) (k0_t1 : Fin (k0_t1_loop i).trips) : Fin 4 → Nat :=
  let c0_54 : Index := 0#32
  let c0_55 : Index := 0#32
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32 : BitVec 32 := 2048#32
  let v64 : BitVec 32 := Scalar.muli v60 c2048_i32
  let v65 : BitVec 32 := v64
  let v66 : Index := Scalar.indexCast v65
  let c0_56 : Index := 0#32
  ![0, 0, v66.toNat, 0]
def k0_off2 (i : grid0.Coords) (k0_t1 : Fin (k0_t1_loop i).trips) : Fin 5 → Nat :=
  let c0_57 : Index := 0#32
  let c0_58 : Index := 0#32
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let arg2 : BitVec 32 := BitVec.ofNat 32 (i 2).val
  let c1_i32_48 : BitVec 32 := 1#32
  let v56 : BitVec 32 := Scalar.addi arg2 c1_i32_48
  let c31_i32_49 : BitVec 32 := 31#32
  let v57 : BitVec 32 := Scalar.minsi v56 c31_i32_49
  let c31_i32 : BitVec 32 := 31#32
  let v0 : BitVec 32 := Scalar.minsi arg2 c31_i32
  let v58 : BitVec 32 := Scalar.select v55 v57 v0
  let v69 : Index := Scalar.indexCast v58
  let c0_59 : Index := 0#32
  let c0_60 : Index := 0#32
  ![0, 0, v69.toNat, 0, 0]
def k0_off3 (i : grid0.Coords) (k0_t1 : Fin (k0_t1_loop i).trips) : Fin 5 → Nat :=
  let c0_516 : Index := 0#32
  let c0_517 : Index := 0#32
  let c0_i32_16 : BitVec 32 := 0#32
  let c1_i32_18 : BitVec 32 := 1#32
  let arg11 : BitVec 32 := Scf.iv c0_i32_16 c1_i32_18 k0_t1
  let c0_i32_52 : BitVec 32 := 0#32
  let v61 : BitVec 1 := Scalar.cmpi .eq arg11 c0_i32_52
  let c7_i32 : BitVec 32 := 7#32
  let c1_i32_53 : BitVec 32 := 1#32
  let v62 : BitVec 32 := Scalar.subi arg11 c1_i32_53
  let v63 : BitVec 32 := Scalar.select v61 c7_i32 v62
  let v784 : Index := Scalar.indexCast v63
  let c0_518 : Index := 0#32
  let c0_519 : Index := 0#32
  ![0, 0, v784.toNat, 0, 0]
def k0_mult4 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32_532 : BitVec 32 := 2048#32
  let v801 : BitVec 32 := Scalar.muli v60 c2048_i32_532
  v801
def k0_off4 (i : grid0.Coords) (k0_t1 : Fin (k0_t1_loop i).trips) : Fin 4 → Nat :=
  let c0_533 : Index := 0#32
  let c1_534 : Index := 1#32
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32_532 : BitVec 32 := 2048#32
  let v801 : BitVec 32 := Scalar.muli v60 c2048_i32_532
  let v802 : BitVec 32 := v801
  let v803 : Index := Scalar.indexCast v802
  let c0_535 : Index := 0#32
  ![0, 1, v803.toNat, 0]
def k0_off5 (i : grid0.Coords) (k0_t1 : Fin (k0_t1_loop i).trips) : Fin 5 → Nat :=
  let c0_536 : Index := 0#32
  let c1_537 : Index := 1#32
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let arg2 : BitVec 32 := BitVec.ofNat 32 (i 2).val
  let c1_i32_48 : BitVec 32 := 1#32
  let v56 : BitVec 32 := Scalar.addi arg2 c1_i32_48
  let c31_i32_49 : BitVec 32 := 31#32
  let v57 : BitVec 32 := Scalar.minsi v56 c31_i32_49
  let c31_i32 : BitVec 32 := 31#32
  let v0 : BitVec 32 := Scalar.minsi arg2 c31_i32
  let v58 : BitVec 32 := Scalar.select v55 v57 v0
  let v806 : Index := Scalar.indexCast v58
  let c0_538 : Index := 0#32
  let c0_539 : Index := 0#32
  ![0, 1, v806.toNat, 0, 0]
def k0_off6 (i : grid0.Coords) (k0_t1 : Fin (k0_t1_loop i).trips) : Fin 5 → Nat :=
  let c0_1058 : Index := 0#32
  let c1_1059 : Index := 1#32
  let c0_i32_16 : BitVec 32 := 0#32
  let c1_i32_18 : BitVec 32 := 1#32
  let arg11 : BitVec 32 := Scf.iv c0_i32_16 c1_i32_18 k0_t1
  let c0_i32_52 : BitVec 32 := 0#32
  let v61 : BitVec 1 := Scalar.cmpi .eq arg11 c0_i32_52
  let c7_i32 : BitVec 32 := 7#32
  let c1_i32_53 : BitVec 32 := 1#32
  let v62 : BitVec 32 := Scalar.subi arg11 c1_i32_53
  let v63 : BitVec 32 := Scalar.select v61 c7_i32 v62
  let v1521 : Index := Scalar.indexCast v63
  let c0_1060 : Index := 0#32
  let c0_1061 : Index := 0#32
  ![0, 1, v1521.toNat, 0, 0]
def k0_mult5 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32 : BitVec 32 := 2048#32
  let v64 : BitVec 32 := Scalar.muli v60 c2048_i32
  v64
def k0_off7 (i : grid0.Coords) (k0_t1 : Fin (k0_t1_loop i).trips) : Fin 4 → Nat :=
  let c0_54 : Index := 0#32
  let c0_55 : Index := 0#32
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32 : BitVec 32 := 2048#32
  let v64 : BitVec 32 := Scalar.muli v60 c2048_i32
  let v65 : BitVec 32 := v64
  let v66 : Index := Scalar.indexCast v65
  let c0_56 : Index := 0#32
  ![0, 0, v66.toNat, 0]
def k0_off8 (i : grid0.Coords) (k0_t1 : Fin (k0_t1_loop i).trips) : Fin 5 → Nat :=
  let c0_57 : Index := 0#32
  let c0_58 : Index := 0#32
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let arg2 : BitVec 32 := BitVec.ofNat 32 (i 2).val
  let c1_i32_48 : BitVec 32 := 1#32
  let v56 : BitVec 32 := Scalar.addi arg2 c1_i32_48
  let c31_i32_49 : BitVec 32 := 31#32
  let v57 : BitVec 32 := Scalar.minsi v56 c31_i32_49
  let c31_i32 : BitVec 32 := 31#32
  let v0 : BitVec 32 := Scalar.minsi arg2 c31_i32
  let v58 : BitVec 32 := Scalar.select v55 v57 v0
  let v69 : Index := Scalar.indexCast v58
  let c0_59 : Index := 0#32
  let c0_60 : Index := 0#32
  ![0, 0, v69.toNat, 0, 0]
def k0_off9 (i : grid0.Coords) (k0_t1 : Fin (k0_t1_loop i).trips) : Fin 5 → Nat :=
  let c0_516 : Index := 0#32
  let c0_517 : Index := 0#32
  let c0_i32_16 : BitVec 32 := 0#32
  let c1_i32_18 : BitVec 32 := 1#32
  let arg11 : BitVec 32 := Scf.iv c0_i32_16 c1_i32_18 k0_t1
  let c0_i32_52 : BitVec 32 := 0#32
  let v61 : BitVec 1 := Scalar.cmpi .eq arg11 c0_i32_52
  let c7_i32 : BitVec 32 := 7#32
  let c1_i32_53 : BitVec 32 := 1#32
  let v62 : BitVec 32 := Scalar.subi arg11 c1_i32_53
  let v63 : BitVec 32 := Scalar.select v61 c7_i32 v62
  let v784 : Index := Scalar.indexCast v63
  let c0_518 : Index := 0#32
  let c0_519 : Index := 0#32
  ![0, 0, v784.toNat, 0, 0]
def k0_mult6 (i : grid0.Coords) (k0_t1 : Fin (k0_t1_loop i).trips) : BitVec 32 :=
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32_532 : BitVec 32 := 2048#32
  let v801 : BitVec 32 := Scalar.muli v60 c2048_i32_532
  v801
def k0_off10 (i : grid0.Coords) (k0_t1 : Fin (k0_t1_loop i).trips) : Fin 4 → Nat :=
  let c0_533 : Index := 0#32
  let c1_534 : Index := 1#32
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32_532 : BitVec 32 := 2048#32
  let v801 : BitVec 32 := Scalar.muli v60 c2048_i32_532
  let v802 : BitVec 32 := v801
  let v803 : Index := Scalar.indexCast v802
  let c0_535 : Index := 0#32
  ![0, 1, v803.toNat, 0]
def k0_off11 (i : grid0.Coords) (k0_t1 : Fin (k0_t1_loop i).trips) : Fin 5 → Nat :=
  let c0_536 : Index := 0#32
  let c1_537 : Index := 1#32
  let c0_i32_16 : BitVec 32 := 0#32
  let c1_i32_18 : BitVec 32 := 1#32
  let arg11 : BitVec 32 := Scf.iv c0_i32_16 c1_i32_18 k0_t1
  let c1_i32_46 : BitVec 32 := 1#32
  let v54 : BitVec 32 := Scalar.addi arg11 c1_i32_46
  let c8_i32_47 : BitVec 32 := 8#32
  let v55 : BitVec 1 := Scalar.cmpi .eq v54 c8_i32_47
  let arg2 : BitVec 32 := BitVec.ofNat 32 (i 2).val
  let c1_i32_48 : BitVec 32 := 1#32
  let v56 : BitVec 32 := Scalar.addi arg2 c1_i32_48
  let c31_i32_49 : BitVec 32 := 31#32
  let v57 : BitVec 32 := Scalar.minsi v56 c31_i32_49
  let c31_i32 : BitVec 32 := 31#32
  let v0 : BitVec 32 := Scalar.minsi arg2 c31_i32
  let v58 : BitVec 32 := Scalar.select v55 v57 v0
  let v806 : Index := Scalar.indexCast v58
  let c0_538 : Index := 0#32
  let c0_539 : Index := 0#32
  ![0, 1, v806.toNat, 0, 0]
def k0_off12 (i : grid0.Coords) (k0_t1 : Fin (k0_t1_loop i).trips) : Fin 5 → Nat :=
  let c0_1058 : Index := 0#32
  let c1_1059 : Index := 1#32
  let c0_i32_16 : BitVec 32 := 0#32
  let c1_i32_18 : BitVec 32 := 1#32
  let arg11 : BitVec 32 := Scf.iv c0_i32_16 c1_i32_18 k0_t1
  let c0_i32_52 : BitVec 32 := 0#32
  let v61 : BitVec 1 := Scalar.cmpi .eq arg11 c0_i32_52
  let c7_i32 : BitVec 32 := 7#32
  let c1_i32_53 : BitVec 32 := 1#32
  let v62 : BitVec 32 := Scalar.subi arg11 c1_i32_53
  let v63 : BitVec 32 := Scalar.select v61 c7_i32 v62
  let v1521 : Index := Scalar.indexCast v63
  let c0_1060 : Index := 0#32
  let c0_1061 : Index := 0#32
  ![0, 1, v1521.toNat, 0, 0]
@[reducible] def k0_t2_loop (i : grid0.Coords) : Scf.Loop 32 :=
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let v17 : BitVec 32 := Scalar.addi c0_i32_16 v16
  let c1_i32_19 : BitVec 32 := 1#32
  ⟨v20, v17, c1_i32_19⟩
def k0_cond4 (i : grid0.Coords) (k0_t2 : Fin (k0_t2_loop i).trips) : BitVec 1 :=
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c2_i32 : BitVec 32 := 2#32
  let c0_i32_36 : BitVec 32 := 0#32
  let v35 : BitVec 1 := Scalar.cmpi .eq c2_i32 c0_i32_36
  let c1_i32_37 : BitVec 32 := 1#32
  let v36 : BitVec 32 := Scalar.select v35 c1_i32_37 c2_i32
  let v37 : BitVec 32 := Scalar.remsi arg11 v36
  let c0_i32_39 : BitVec 32 := 0#32
  let v39 : BitVec 1 := Scalar.cmpi .slt v37 c0_i32_39
  let c0_i32_40 : BitVec 32 := 0#32
  let v40 : BitVec 1 := Scalar.cmpi .slt v36 c0_i32_40
  let v41 : BitVec 1 := Scalar.xori v39 v40
  let c0_i32_38 : BitVec 32 := 0#32
  let v38 : BitVec 1 := Scalar.cmpi .ne v37 c0_i32_38
  let v42 : BitVec 1 := Scalar.andi v41 v38
  let v43 : BitVec 32 := Scalar.addi v37 v36
  let v44 : BitVec 32 := Scalar.select v42 v43 v37
  let c0_i32_41 : BitVec 32 := 0#32
  let v45 : BitVec 1 := Scalar.cmpi .eq v44 c0_i32_41
  let v46 : BitVec 32 := Scalar.extui v45
  let c0_i32_42 : BitVec 32 := 0#32
  let v47 : BitVec 1 := Scalar.cmpi .ne v46 c0_i32_42
  v47

def k0_mult7 (i : grid0.Coords) (k0_t2 : Fin (k0_t2_loop i).trips) : BitVec 32 :=
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32 : BitVec 32 := 2048#32
  let v64 : BitVec 32 := Scalar.muli v60 c2048_i32
  v64
def k0_off13 (i : grid0.Coords) (k0_t2 : Fin (k0_t2_loop i).trips) : Fin 4 → Nat :=
  let c0_54 : Index := 0#32
  let c0_55 : Index := 0#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32 : BitVec 32 := 2048#32
  let v64 : BitVec 32 := Scalar.muli v60 c2048_i32
  let v65 : BitVec 32 := v64
  let v66 : Index := Scalar.indexCast v65
  let c0_56 : Index := 0#32
  ![0, 0, v66.toNat, 0]
def k0_off14 (i : grid0.Coords) (k0_t2 : Fin (k0_t2_loop i).trips) : Fin 5 → Nat :=
  let c0_57 : Index := 0#32
  let c0_58 : Index := 0#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c1_i32_48 : BitVec 32 := 1#32
  let v56 : BitVec 32 := Scalar.addi arg2 c1_i32_48
  let c31_i32_49 : BitVec 32 := 31#32
  let v57 : BitVec 32 := Scalar.minsi v56 c31_i32_49
  let c31_i32 : BitVec 32 := 31#32
  let v0 : BitVec 32 := Scalar.minsi arg2 c31_i32
  let v58 : BitVec 32 := Scalar.select v55 v57 v0
  let v69 : Index := Scalar.indexCast v58
  let c0_59 : Index := 0#32
  let c0_60 : Index := 0#32
  ![0, 0, v69.toNat, 0, 0]
def k0_off15 (i : grid0.Coords) (k0_t2 : Fin (k0_t2_loop i).trips) : Fin 5 → Nat :=
  let c0_516 : Index := 0#32
  let c0_517 : Index := 0#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c0_i32_52 : BitVec 32 := 0#32
  let v61 : BitVec 1 := Scalar.cmpi .eq arg11 c0_i32_52
  let c7_i32 : BitVec 32 := 7#32
  let c1_i32_53 : BitVec 32 := 1#32
  let v62 : BitVec 32 := Scalar.subi arg11 c1_i32_53
  let v63 : BitVec 32 := Scalar.select v61 c7_i32 v62
  let v784 : Index := Scalar.indexCast v63
  let c0_518 : Index := 0#32
  let c0_519 : Index := 0#32
  ![0, 0, v784.toNat, 0, 0]
def k0_mult8 (i : grid0.Coords) (k0_t2 : Fin (k0_t2_loop i).trips) : BitVec 32 :=
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32_532 : BitVec 32 := 2048#32
  let v801 : BitVec 32 := Scalar.muli v60 c2048_i32_532
  v801
def k0_off16 (i : grid0.Coords) (k0_t2 : Fin (k0_t2_loop i).trips) : Fin 4 → Nat :=
  let c0_533 : Index := 0#32
  let c1_534 : Index := 1#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32_532 : BitVec 32 := 2048#32
  let v801 : BitVec 32 := Scalar.muli v60 c2048_i32_532
  let v802 : BitVec 32 := v801
  let v803 : Index := Scalar.indexCast v802
  let c0_535 : Index := 0#32
  ![0, 1, v803.toNat, 0]
def k0_off17 (i : grid0.Coords) (k0_t2 : Fin (k0_t2_loop i).trips) : Fin 5 → Nat :=
  let c0_536 : Index := 0#32
  let c1_537 : Index := 1#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c1_i32_48 : BitVec 32 := 1#32
  let v56 : BitVec 32 := Scalar.addi arg2 c1_i32_48
  let c31_i32_49 : BitVec 32 := 31#32
  let v57 : BitVec 32 := Scalar.minsi v56 c31_i32_49
  let c31_i32 : BitVec 32 := 31#32
  let v0 : BitVec 32 := Scalar.minsi arg2 c31_i32
  let v58 : BitVec 32 := Scalar.select v55 v57 v0
  let v806 : Index := Scalar.indexCast v58
  let c0_538 : Index := 0#32
  let c0_539 : Index := 0#32
  ![0, 1, v806.toNat, 0, 0]
def k0_off18 (i : grid0.Coords) (k0_t2 : Fin (k0_t2_loop i).trips) : Fin 5 → Nat :=
  let c0_1058 : Index := 0#32
  let c1_1059 : Index := 1#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c0_i32_52 : BitVec 32 := 0#32
  let v61 : BitVec 1 := Scalar.cmpi .eq arg11 c0_i32_52
  let c7_i32 : BitVec 32 := 7#32
  let c1_i32_53 : BitVec 32 := 1#32
  let v62 : BitVec 32 := Scalar.subi arg11 c1_i32_53
  let v63 : BitVec 32 := Scalar.select v61 c7_i32 v62
  let v1521 : Index := Scalar.indexCast v63
  let c0_1060 : Index := 0#32
  let c0_1061 : Index := 0#32
  ![0, 1, v1521.toNat, 0, 0]
def k0_mult9 (i : grid0.Coords) (k0_t2 : Fin (k0_t2_loop i).trips) : BitVec 32 :=
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32 : BitVec 32 := 2048#32
  let v64 : BitVec 32 := Scalar.muli v60 c2048_i32
  v64
def k0_off19 (i : grid0.Coords) (k0_t2 : Fin (k0_t2_loop i).trips) : Fin 4 → Nat :=
  let c0_54 : Index := 0#32
  let c0_55 : Index := 0#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32 : BitVec 32 := 2048#32
  let v64 : BitVec 32 := Scalar.muli v60 c2048_i32
  let v65 : BitVec 32 := v64
  let v66 : Index := Scalar.indexCast v65
  let c0_56 : Index := 0#32
  ![0, 0, v66.toNat, 0]
def k0_off20 (i : grid0.Coords) (k0_t2 : Fin (k0_t2_loop i).trips) : Fin 5 → Nat :=
  let c0_57 : Index := 0#32
  let c0_58 : Index := 0#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c1_i32_48 : BitVec 32 := 1#32
  let v56 : BitVec 32 := Scalar.addi arg2 c1_i32_48
  let c31_i32_49 : BitVec 32 := 31#32
  let v57 : BitVec 32 := Scalar.minsi v56 c31_i32_49
  let c31_i32 : BitVec 32 := 31#32
  let v0 : BitVec 32 := Scalar.minsi arg2 c31_i32
  let v58 : BitVec 32 := Scalar.select v55 v57 v0
  let v69 : Index := Scalar.indexCast v58
  let c0_59 : Index := 0#32
  let c0_60 : Index := 0#32
  ![0, 0, v69.toNat, 0, 0]
def k0_off21 (i : grid0.Coords) (k0_t2 : Fin (k0_t2_loop i).trips) : Fin 5 → Nat :=
  let c0_516 : Index := 0#32
  let c0_517 : Index := 0#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c0_i32_52 : BitVec 32 := 0#32
  let v61 : BitVec 1 := Scalar.cmpi .eq arg11 c0_i32_52
  let c7_i32 : BitVec 32 := 7#32
  let c1_i32_53 : BitVec 32 := 1#32
  let v62 : BitVec 32 := Scalar.subi arg11 c1_i32_53
  let v63 : BitVec 32 := Scalar.select v61 c7_i32 v62
  let v784 : Index := Scalar.indexCast v63
  let c0_518 : Index := 0#32
  let c0_519 : Index := 0#32
  ![0, 0, v784.toNat, 0, 0]
def k0_mult10 (i : grid0.Coords) (k0_t2 : Fin (k0_t2_loop i).trips) : BitVec 32 :=
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32_532 : BitVec 32 := 2048#32
  let v801 : BitVec 32 := Scalar.muli v60 c2048_i32_532
  v801
def k0_off22 (i : grid0.Coords) (k0_t2 : Fin (k0_t2_loop i).trips) : Fin 4 → Nat :=
  let c0_533 : Index := 0#32
  let c1_534 : Index := 1#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c0_i32_51 : BitVec 32 := 0#32
  let c1_i32_50 : BitVec 32 := 1#32
  let v59 : BitVec 32 := Scalar.addi arg11 c1_i32_50
  let v60 : BitVec 32 := Scalar.select v55 c0_i32_51 v59
  let c2048_i32_532 : BitVec 32 := 2048#32
  let v801 : BitVec 32 := Scalar.muli v60 c2048_i32_532
  let v802 : BitVec 32 := v801
  let v803 : Index := Scalar.indexCast v802
  let c0_535 : Index := 0#32
  ![0, 1, v803.toNat, 0]
def k0_off23 (i : grid0.Coords) (k0_t2 : Fin (k0_t2_loop i).trips) : Fin 5 → Nat :=
  let c0_536 : Index := 0#32
  let c1_537 : Index := 1#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c1_i32_46 : BitVec 32 := 1#32
  let v54 : BitVec 32 := Scalar.addi arg11 c1_i32_46
  let c8_i32_47 : BitVec 32 := 8#32
  let v55 : BitVec 1 := Scalar.cmpi .eq v54 c8_i32_47
  let c1_i32_48 : BitVec 32 := 1#32
  let v56 : BitVec 32 := Scalar.addi arg2 c1_i32_48
  let c31_i32_49 : BitVec 32 := 31#32
  let v57 : BitVec 32 := Scalar.minsi v56 c31_i32_49
  let c31_i32 : BitVec 32 := 31#32
  let v0 : BitVec 32 := Scalar.minsi arg2 c31_i32
  let v58 : BitVec 32 := Scalar.select v55 v57 v0
  let v806 : Index := Scalar.indexCast v58
  let c0_538 : Index := 0#32
  let c0_539 : Index := 0#32
  ![0, 1, v806.toNat, 0, 0]
def k0_off24 (i : grid0.Coords) (k0_t2 : Fin (k0_t2_loop i).trips) : Fin 5 → Nat :=
  let c0_1058 : Index := 0#32
  let c1_1059 : Index := 1#32
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c0_i32_52 : BitVec 32 := 0#32
  let v61 : BitVec 1 := Scalar.cmpi .eq arg11 c0_i32_52
  let c7_i32 : BitVec 32 := 7#32
  let c1_i32_53 : BitVec 32 := 1#32
  let v62 : BitVec 32 := Scalar.subi arg11 c1_i32_53
  let v63 : BitVec 32 := Scalar.select v61 c7_i32 v62
  let v1521 : Index := Scalar.indexCast v63
  let c0_1060 : Index := 0#32
  let c0_1061 : Index := 0#32
  ![0, 1, v1521.toNat, 0, 0]
def k0_cond3 (i : grid0.Coords) (k0_t1 : Fin (k0_t1_loop i).trips) : BitVec 1 :=
  let c0_i32_16 : BitVec 32 := 0#32
  let c1_i32_18 : BitVec 32 := 1#32
  let arg11 : BitVec 32 := Scf.iv c0_i32_16 c1_i32_18 k0_t1
  let c0_i32_43 : BitVec 32 := 0#32
  let v49 : BitVec 1 := Scalar.cmpi .eq arg11 c0_i32_43
  let arg2 : BitVec 32 := BitVec.ofNat 32 (i 2).val
  let c0_i32_44 : BitVec 32 := 0#32
  let v50 : BitVec 1 := Scalar.cmpi .sgt arg2 c0_i32_44
  let v51 : BitVec 1 := Scalar.andi v49 v50
  let v52 : BitVec 32 := Scalar.extui v51
  let c0_i32_45 : BitVec 32 := 0#32
  let v53 : BitVec 1 := Scalar.cmpi .ne v52 c0_i32_45
  v53

def k0_cond5 (i : grid0.Coords) (k0_t2 : Fin (k0_t2_loop i).trips) : BitVec 1 :=
  let c0_i32_16 : BitVec 32 := 0#32
  let arg2 : BitVec 32 := BitVec.ofNat 32 (i 2).val
  let c32_i32 : BitVec 32 := 32#32
  let v14 : BitVec 1 := Scalar.cmpi .eq arg2 c32_i32
  let c1_i32 : BitVec 32 := 1#32
  let c8_i32 : BitVec 32 := 8#32
  let v15 : BitVec 32 := Scalar.select v14 c1_i32 c8_i32
  let v16 : BitVec 32 := Scalar.subi v15 c0_i32_16
  let c1_i32_17 : BitVec 32 := 1#32
  let v18 : BitVec 32 := Scalar.divsi v16 c1_i32_17
  let v19 : BitVec 32 := Scalar.muli v18 c1_i32_17
  let v20 : BitVec 32 := Scalar.addi c0_i32_16 v19
  let c1_i32_19 : BitVec 32 := 1#32
  let arg11 : BitVec 32 := Scf.iv v20 c1_i32_19 k0_t2
  let c0_i32_43 : BitVec 32 := 0#32
  let v49 : BitVec 1 := Scalar.cmpi .eq arg11 c0_i32_43
  let c0_i32_44 : BitVec 32 := 0#32
  let v50 : BitVec 1 := Scalar.cmpi .sgt arg2 c0_i32_44
  let v51 : BitVec 1 := Scalar.andi v49 v50
  let v52 : BitVec 32 := Scalar.extui v51
  let c0_i32_45 : BitVec 32 := 0#32
  let v53 : BitVec 1 := Scalar.cmpi .ne v52 c0_i32_45
  v53

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

abbrev stage0_0 : Fin 1 → Memref sig .tc .vmem S1x2x32x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x2x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x2x8x80x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16384x8x96 : Shape := ⟨4, ![2, 16384, 8, 96]⟩
abbrev S2x16384x8x64 : Shape := ⟨4, ![2, 16384, 8, 64]⟩
abbrev S_ : Shape := ⟨0, ![]⟩
abbrev S2x8x16384x16384 : Shape := ⟨4, ![2, 8, 16384, 16384]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x512 : Shape := ⟨3, ![2, 16384, 512]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x8x96, .f32⟩
  | .hbm, ⟨1, _⟩ => ⟨S2x16384x8x96, .f32⟩
  | .hbm, ⟨2, _⟩ => ⟨S2x16384x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x8x16384x16384, .f32⟩
  | .hbm, ⟨8, _⟩ => ⟨S2x8x16384x16384, .f32⟩
  | .hbm, ⟨9, _⟩ => ⟨S2x8x16384x16384, .f32⟩
  | .hbm, ⟨10, _⟩ => ⟨S_, .f32⟩
  | .hbm, ⟨11, _⟩ => ⟨S2x8x16384, .f32⟩
  | .hbm, ⟨12, _⟩ => ⟨S_, .f32⟩
  | .hbm, ⟨13, _⟩ => ⟨S2x8x16384, .f32⟩
  | .hbm, ⟨14, _⟩ => ⟨S2x8x16384, .f32⟩
  | .hbm, ⟨15, _⟩ => ⟨S2x8x16384x1, .f32⟩
  | .hbm, ⟨16, _⟩ => ⟨S2x8x16384x16384, .f32⟩
  | .hbm, ⟨17, _⟩ => ⟨S2x8x16384x16384, .f32⟩
  | .hbm, ⟨18, _⟩ => ⟨S2x8x16384x16384, .f32⟩
  | .hbm, ⟨19, _⟩ => ⟨S_, .f32⟩
  | .hbm, ⟨20, _⟩ => ⟨S2x8x16384, .f32⟩
  | .hbm, ⟨21, _⟩ => ⟨S2x8x16384x1, .f32⟩
  | .hbm, ⟨22, _⟩ => ⟨S2x8x16384x16384, .f32⟩
  | .hbm, ⟨23, _⟩ => ⟨S2x8x16384x16384, .f32⟩
  | .hbm, ⟨24, _⟩ => ⟨S2x8x64x16384, .f32⟩
  | .hbm, ⟨25, _⟩ => ⟨S2x16384x8x64, .f32⟩
  | .hbm, ⟨26, _⟩ => ⟨S2x16384x512, .f32⟩
  | .hbm, ⟨27, _⟩ => ⟨S2x16384x512, .bf16⟩
  | _, _ => ⟨S2x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S512x2816 : Shape := ⟨2, ![512, 2816]⟩
abbrev S512x1024 : Shape := ⟨2, ![512, 1024]⟩
abbrev S8x1024 : Shape := ⟨2, ![8, 1024]⟩
abbrev S528x1024 : Shape := ⟨2, ![528, 1024]⟩
abbrev S528 : Shape := ⟨1, ![528]⟩
abbrev S528x1 : Shape := ⟨2, ![528, 1]⟩
abbrev S1024x256 : Shape := ⟨2, ![1024, 256]⟩
abbrev S528x256 : Shape := ⟨2, ![528, 256]⟩
abbrev S3x256 : Shape := ⟨2, ![3, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S2x16384x1024 : Shape := ⟨3, ![2, 16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S2x16384x2816 : Shape := ⟨3, ![2, 16384, 2816]⟩

abbrev nBuf : Space → Nat
  | .hbm => 88
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S2x16384x5632, .f32⟩
  | .hbm, ⟨24, _⟩ => ⟨S_, .i32⟩
  | .hbm, ⟨25, _⟩ => ⟨S_, .f32⟩
  | .hbm, ⟨26, _⟩ => ⟨S2x16386x5632, .f32⟩
  | .hbm, ⟨27, _⟩ => ⟨S2x16384x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S2x16384x5632, .f32⟩
  | .hbm, ⟨32, _⟩ => ⟨S2x16384x5632, .f32⟩
  | .hbm, ⟨33, _⟩ => ⟨S1x1x5632, .f32⟩
  | .hbm, ⟨34, _⟩ => ⟨S2x16384x5632, .f32⟩
  | .hbm, ⟨35, _⟩ => ⟨S2x16384x5632, .f32⟩
  | .hbm, ⟨36, _⟩ => ⟨S2x16384x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S2x16384x5632, .f32⟩
  | .hbm, ⟨41, _⟩ => ⟨S2x16384x5632, .f32⟩
  | .hbm, ⟨42, _⟩ => ⟨S2x16384x5632, .f32⟩
  | .hbm, ⟨43, _⟩ => ⟨S2x16384x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S2x16384x5632, .f32⟩
  | .hbm, ⟨48, _⟩ => ⟨S2x16384x5632, .f32⟩
  | .hbm, ⟨49, _⟩ => ⟨S2x16384x5632, .f32⟩
  | .hbm, ⟨50, _⟩ => ⟨S2x16384x2816, .f32⟩
  | .hbm, ⟨51, _⟩ => ⟨S2x16384x2816, .f32⟩
  | .hbm, ⟨52, _⟩ => ⟨S2x16384x2816, .f32⟩
  | .hbm, ⟨53, _⟩ => ⟨S2x16384x2816, .f32⟩
  | .hbm, ⟨54, _⟩ => ⟨S_, .f32⟩
  | .hbm, ⟨55, _⟩ => ⟨S2x16384x2816, .f32⟩
  | .hbm, ⟨56, _⟩ => ⟨S2x16384x2816, .f32⟩
  | .hbm, ⟨57, _⟩ => ⟨S2x16384x2816, .f32⟩
  | .hbm, ⟨58, _⟩ => ⟨S_, .f32⟩
  | .hbm, ⟨59, _⟩ => ⟨S2x16384x2816, .f32⟩
  | .hbm, ⟨60, _⟩ => ⟨S2x16384x2816, .f32⟩
  | .hbm, ⟨61, _⟩ => ⟨S2x16384x2816, .f32⟩
  | .hbm, ⟨62, _⟩ => ⟨S_, .f32⟩
  | .hbm, ⟨63, _⟩ => ⟨S2x16384x2816, .f32⟩
  | .hbm, ⟨64, _⟩ => ⟨S2x16384x2816, .f32⟩
  | .hbm, ⟨65, _⟩ => ⟨S_, .f32⟩
  | .hbm, ⟨66, _⟩ => ⟨S2x16384x2816, .f32⟩
  | .hbm, ⟨67, _⟩ => ⟨S2x16384x2816, .f32⟩
  | .hbm, ⟨68, _⟩ => ⟨S2x16384x2816, .f32⟩
  | .hbm, ⟨69, _⟩ => ⟨S2x16384x2816, .f32⟩
  | .hbm, ⟨70, _⟩ => ⟨S2x16384x1024, .f32⟩
  | .hbm, ⟨71, _⟩ => ⟨S2x16384x1024, .f32⟩
  | .hbm, ⟨72, _⟩ => ⟨S_, .f32⟩
  | .hbm, ⟨73, _⟩ => ⟨S2x16384, .f32⟩
  | .hbm, ⟨74, _⟩ => ⟨S2x16384x1, .f32⟩
  | .hbm, ⟨75, _⟩ => ⟨S_, .f32⟩
  | .hbm, ⟨76, _⟩ => ⟨S2x16384x1, .f32⟩
  | .hbm, ⟨77, _⟩ => ⟨S2x16384x1, .f32⟩
  | .hbm, ⟨78, _⟩ => ⟨S_, .f32⟩
  | .hbm, ⟨79, _⟩ => ⟨S2x16384x1, .f32⟩
  | .hbm, ⟨80, _⟩ => ⟨S2x16384x1, .f32⟩
  | .hbm, ⟨81, _⟩ => ⟨S2x16384x1, .f32⟩
  | .hbm, ⟨82, _⟩ => ⟨S2x16384x1024, .f32⟩
  | .hbm, ⟨83, _⟩ => ⟨S2x16384x1024, .f32⟩
  | .hbm, ⟨84, _⟩ => ⟨S1x1x1024, .f32⟩
  | .hbm, ⟨85, _⟩ => ⟨S2x16384x1024, .f32⟩
  | .hbm, ⟨86, _⟩ => ⟨S2x16384x1024, .f32⟩
  | .hbm, ⟨87, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Proof.Common.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Affine
public import Idealize.ShloMosaic.Lib.Tactic

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- The core holds a buffer whole, at given contents. -/
abbrev own (c : Dev nD) {s : Shape} {e : EltTy} (r : Memref sig .tc .vmem s e) (f : Buf (Elt F) (r.view.loc (c : Thread nD τ))) : sProp 𝕄 :=
  r.view.loc (c : Thread nD τ) ↦[r.view.set]{fullShare} f

/-- The carried vectors: for each head the running maximum, the last factor and the next chunk's maximum. -/
abbrev Carry (F : FTy → Type) : Type :=
  FVec F S1x512 .f32 × FVec F S1x512 .f32 × FVec F S1x512 .f32 × FVec F S1x512 .f32 × FVec F S1x512 .f32 × FVec F S1x512 .f32

end Cert.Mla

end
-- ==== Proof.Words.lean ====
module

public import proofs.«01_k».proof.Proof.Common

@[expose] public section

namespace Cert.Mla

open Cert.KernelIdeal Cert.KernelIdeal.Gen
open Idealize.ShloMosaic

/-! What the kernel's conditions, trip counts and offsets are, as numbers. -/

/-- The query block of a point. -/
abbrev qb (i : grid0.Coords) : ℕ := (i 2).val

theorem qb_lt (i : grid0.Coords) : qb i < 33 := (i 2).isLt

theorem trips_eq (i : grid0.Coords) : (k0_t1_loop i).trips = if qb i = 32 then 1 else 8 := by
  have h := qb_lt i
  unfold k0_t1_loop
  show (_ : ℕ) = if (i 2).val = 32 then 1 else 8
  revert h
  show (i 2).val < 33 → _
  generalize (i 2).val = n
  revert n
  decide +kernel

theorem trip_lt (i : grid0.Coords) (k : Fin (k0_t1_loop i).trips) : k.val < 8 :=
  Nat.lt_of_lt_of_le k.isLt (k0_t1_abs i).2.1

theorem cond1_iff (i : grid0.Coords) : k0_cond1 i = 1#1 ↔ qb i = 0 := by
  have h := qb_lt i
  unfold k0_cond1 qb at *
  revert h
  generalize (i 2).val = n
  revert n
  decide +kernel

theorem cond2_iff (i : grid0.Coords) (k : Fin (k0_t1_loop i).trips) : k0_cond2 i k = 1#1 ↔ k.val % 2 = 0 := by
  have h := trip_lt i k
  unfold k0_cond2
  generalize k.val = n at *
  revert n
  decide +kernel

theorem cond3_iff (i : grid0.Coords) (k : Fin (k0_t1_loop i).trips) :
    k0_cond3 i k = 1#1 ↔ k.val = 0 ∧ 0 < qb i := by
  have h := trip_lt i k
  have h' := qb_lt i
  unfold k0_cond3
  unfold qb at *
  generalize k.val = n at *
  generalize (i 2).val = m at *
  revert n m
  decide +kernel

/-- The chunk of keys scored on trip `k`. -/
abbrev cNext (k : ℕ) : ℕ := if k + 1 = 8 then 0 else k + 1
/-- The query block scored on trip `k`. -/
abbrev qNext (i : grid0.Coords) (k : ℕ) : ℕ := if k + 1 = 8 then min (qb i + 1) 31 else min (qb i) 31
/-- The chunk of values accumulated on trip `k`. -/
abbrev cPrev (k : ℕ) : ℕ := if k = 0 then 7 else k - 1

theorem off3_eq (i : grid0.Coords) (k : Fin (k0_t1_loop i).trips) : k0_off3 i k = ![0, 0, cPrev k.val, 0, 0] := by
  have h := trip_lt i k
  unfold k0_off3
  generalize k.val = n at *
  revert n
  decide +kernel

theorem off6_eq (i : grid0.Coords) (k : Fin (k0_t1_loop i).trips) : k0_off6 i k = ![0, 1, cPrev k.val, 0, 0] := by
  have h := trip_lt i k
  unfold k0_off6
  generalize k.val = n at *
  revert n
  decide +kernel

theorem off9_eq (i : grid0.Coords) (k : Fin (k0_t1_loop i).trips) : k0_off9 i k = ![0, 0, cPrev k.val, 0, 0] := by
  have h := trip_lt i k
  unfold k0_off9
  generalize k.val = n at *
  revert n
  decide +kernel

theorem off12_eq (i : grid0.Coords) (k : Fin (k0_t1_loop i).trips) : k0_off12 i k = ![0, 1, cPrev k.val, 0, 0] := by
  have h := trip_lt i k
  unfold k0_off12
  generalize k.val = n at *
  revert n
  decide +kernel

theorem cNext_lt {k : ℕ} (h : k < 8) : cNext k < 8 := by unfold cNext; split <;> omega
theorem qNext_lt (i : grid0.Coords) (k : ℕ) : qNext i k < 32 := by unfold qNext; split <;> omega
theorem cPrev_lt {k : ℕ} (h : k < 8) : cPrev k < 8 := by unfold cPrev; split <;> omega

end Cert.Mla
-- ==== Proof.Steps.lean ====
module

public import proofs.«01_k».proof.Proof.Words
public import Idealize.ShloMosaic.Lib.WritesUnit
public import Idealize.ShloMosaic.Lib.Pointwise

@[expose] public section

set_option maxRecDepth 16384

noncomputable section

namespace Cert.Mla

open Cert.KernelIdeal Cert.KernelIdeal.Gen
open Idealize.ShloMosaic

variable {F : FTy → Type} [FloatOps F]

/-! ## One trip as a function of what the buffers hold -/

/-- The scores of one chunk of keys against one block of queries, for one head. -/
def scoreBlk (kk : S1x2x16384x128.Idx → Elt F .bf16) (qq : S1x2x32x128x512.Idx → Elt F .bf16)
    (hd : Fin 2) (c : Fin 8) (q : Fin 32) : FVec F S2048x512 .f32 :=
  k0_pay20 (F := F) (fun x => kk (ix4 0 hd ⟨2048 * c.val + (x 2).val, by have h : (x 2).val < 2048 := (x 2).isLt; omega⟩ (x 3)))
    (fun x => qq (ix5 0 hd q (x 3) (x 4)))

theorem slices_strip (n : ℕ) (h : n < 64) : S2048x512.Slices ![32 * n, 0] S32x512 := by
  refine ⟨rfl, fun a => ?_⟩
  match a with
  | ⟨0, _⟩ => show 32 * n + 32 ≤ 2048; omega
  | ⟨1, _⟩ => show 0 + 512 ≤ 512; omega

/-- The elementwise maximum of the first `n + 1` strips of 32 rows. -/
def stripMax (st : FVec F S2048x512 .f32) : (n : ℕ) → n < 64 → FVec F S32x512 .f32
  | 0, h => extractStridedSlice S32x512 ![32 * 0, 0] st (slices_strip 0 h)
  | n + 1, h => maximumf (stripMax st n (Nat.lt_of_succ_lt h)) (extractStridedSlice S32x512 ![32 * (n + 1), 0] st (slices_strip (n + 1) h))

/-- The maximum over the rows, kept as one row. -/
def mxOf (st : FVec F S2048x512 .f32) : FVec F S1x512 .f32 :=
  shapeCast S1x512 (multiReduction .maximumf [0] S512 (stripMax st 63 (by omega)) 0xFF800000#32 reduces_S32x512_S512 (.inl rfl) rfl)
    shapeCasts_S512_S1x512

/-- The running maximum after a trip. -/
def mNew (m mx : FVec F S1x512 .f32) : FVec F S1x512 .f32 := k0_pay25 m mx
/-- The factor a trip rescales by. -/
def alphaNew (m mx : FVec F S1x512 .f32) : FVec F S1x512 .f32 := k0_pay26 m mx

/-- The scores buffer after a trip: slot `nxt` at the new blocks. -/
def sNext (nxt : Fin 2) (blk : Fin 2 → FVec F S2048x512 .f32) (s : S2x2x2048x512.Idx → Elt F .f32) :
    S2x2x2048x512.Idx → Elt F .f32 := fun y =>
  if (y 0).val = nxt.val then blk (y 1) (ix2 (y 2) (y 3)) else s y

/-- The numerators buffer after a trip: slot `cur` at the exponentials of its scores less the maxima. -/
def pNext (cur : Fin 2) (M : Fin 2 → FVec F S1x512 .f32) (s : S2x2x2048x512.Idx → Elt F .f32)
    (p : S2x2x2048x512.Idx → Elt F .bf16) : S2x2x2048x512.Idx → Elt F .bf16 := fun y =>
  if (y 0).val = cur.val then
    k0_pay27 (F := F) (M (y 1)) (fun x => s (ix4 cur (y 1) ⟨32 * ((y 2).val / 32) + (x 2).val, by
        have h : (x 2).val < 32 := (x 2).isLt
        have h' : (y 2).val < 2048 := (y 2).isLt
        omega⟩ (x 3)))
      (ix4 0 0 ⟨(y 2).val % 32, Nat.mod_lt _ (by omega)⟩ (y 3))
  else p y

/-- The accumulators after a trip. -/
def aNext (nxt : Fin 2) (al : Fin 2 → FVec F S1x512 .f32) (vv : S1x2x8x80x2048.Idx → Elt F .bf16) (c : Fin 8)
    (p : S2x2x2048x512.Idx → Elt F .bf16) (a : S2x80x512.Idx → Elt F .f32) : S2x80x512.Idx → Elt F .f32 := fun y =>
  k0_pay104 (F := F) (al (y 0)) (fun x => vv (ix5 0 (y 0) c (x 3) (x 4))) (fun x => a (ix3 (y 0) (x 1) (x 2)))
    (fun x => p (ix4 nxt (y 0) (x 2) (x 3))) (ix3 0 (y 1) (y 2))

/-- The output block made of the accumulators. -/
def outV (a : S2x80x512.Idx → Elt F .f32) : S1x512x128.Idx → Elt F .bf16 :=
  k0_pay751 (F := F) (fun x => a (ix3 0 (x 1) (x 2))) (fun x => a (ix3 1 (x 1) (x 2)))

/-! ## Reading the buffers after the stores of a trip -/

section Reads

variable {sig' : RefSig} {κ : Kind} {sp : Space} {e : EltTy} {Val : EltTy → Type}

theorem readAt_unit {s : Shape} (v : View sig' κ sp s e) {off off' size : Fin s.rank → ℕ} (inb : ∀ a, off a + size a ≤ s.size a)
    (f : v.ty.Contents Val) (x : (Rect.unit off size inb).shape.Idx) (y : s.Idx) (heq : off = off')
    (hy : ∀ a, (y a).val = off' a + (x a).val) :
    v.readAt Val (Rect.unit off size inb).toLoadRect f x = v.read Val f y := by
  subst heq
  have h : (Rect.unit off size inb).toLoadRect.idx x = y := funext fun a => Fin.ext (by
    show off a + 1 * (x a).val = (y a).val
    rw [hy a]; omega)
  show v.read Val f ((Rect.unit off size inb).toLoadRect.idx x) = _
  rw [h]

end Reads

section Stores

variable {sig' : RefSig} {κ : Kind} {sp : Space}

theorem inb_strip (cur hd : Fin 2) (r : Fin 64) (a : Fin 4) :
    (![cur.val, hd.val, 32 * r.val, 0] : Fin 4 → ℕ) a + S1x1x32x512.size a ≤ S2x2x2048x512.size a := by
  match a with
  | ⟨0, _⟩ => show cur.val + 1 ≤ 2; omega
  | ⟨1, _⟩ => show hd.val + 1 ≤ 2; omega
  | ⟨2, _⟩ => show 32 * r.val + 32 ≤ 2048; omega
  | ⟨3, _⟩ => show 0 + 512 ≤ 512; omega

/-- The 64 stores of one head's numerators, newest first. -/
def stripList (v7 : View sig' κ sp S2x2x2048x512 .f32) (f7 : v7.ty.Contents (Elt F)) (cur hd : Fin 2) (M : FVec F S1x512 .f32) :
    List (View.Piece (Elt F) S2x2x2048x512 .bf16) :=
  View.tilePieces (NT := 64) (s := S2x2x2048x512) (e := .bf16) S1x1x32x512.size (fun r => ![cur.val, hd.val, 32 * r.val, 0]) (inb_strip cur hd)
    (fun r => k0_pay27 (F := F) M (v7.readAt (Elt F) (Rect.unit (s := S2x2x2048x512) ![cur.val, hd.val, 32 * r.val, 0] S1x1x32x512.size (inb_strip cur hd r)).toLoadRect f7))
    64 (Nat.le_refl 64)

theorem strip_hit (v8 : View sig' κ sp S2x2x2048x512 .bf16) (f8 : v8.ty.Contents (Elt F))
    (v7 : View sig' κ sp S2x2x2048x512 .f32) (f7 : v7.ty.Contents (Elt F)) (cur hd : Fin 2) (M : FVec F S1x512 .f32)
    (y : S2x2x2048x512.Idx) (h0 : (y 0).val = cur.val) (h1 : (y 1).val = hd.val) :
    v8.read (Elt F) (v8.writes (Elt F) f8 (stripList v7 f7 cur hd M)) y
      = k0_pay27 (F := F) M (fun x => v7.read (Elt F) f7 (ix4 cur hd ⟨32 * ((y 2).val / 32) + (x 2).val, by
            have h : (x 2).val < 32 := (x 2).isLt
            have h' : (y 2).val < 2048 := (y 2).isLt
            omega⟩ (x 3)))
          (ix4 0 0 ⟨(y 2).val % 32, Nat.mod_lt _ (by omega)⟩ (y 3)) := by
  have h2 : (y 2).val < 2048 := (y 2).isLt
  have hr : (y 2).val / 32 < 64 := by omega
  unfold stripList
  refine (View.read_tilePieces (s := S2x2x2048x512) (e := .bf16) v8 f8 S1x1x32x512.size (fun r : Fin 64 => ![cur.val, hd.val, 32 * r.val, 0])
    (inb_strip cur hd) _ 64 (Nat.le_refl 64) y ⟨(y 2).val / 32, hr⟩ hr
    (ix4 (0 : Fin 1) (0 : Fin 1) (⟨(y 2).val % 32, Nat.mod_lt _ (by omega)⟩ : Fin 32) (y 3)) ?_ (2 : Fin 4) ?_).trans ?_
  · intro a
    match a with
    | ⟨0, _⟩ => exact h0
    | ⟨1, _⟩ => exact h1
    | ⟨2, _⟩ => show (y 2).val = 32 * ((y 2).val / 32) + (y 2).val % 32; omega
    | ⟨3, _⟩ => show (y 3).val = 0 + (y 3).val; omega
  · intro i' hi'
    have hne : i'.val ≠ (y 2).val / 32 := fun h => hi' (Fin.ext h)
    show (y 2).val < 32 * i'.val ∨ 32 * i'.val + 32 ≤ (y 2).val
    omega
  · refine congrFun (congrArg (k0_pay27 (F := F) M) (funext fun x => ?_)) _
    refine readAt_unit (s := S2x2x2048x512) v7 (inb_strip cur hd ⟨(y 2).val / 32, hr⟩) f7 x _ rfl fun a => ?_
    have hx0 : (x (0 : Fin 4)).val < 1 := (x (0 : Fin 4)).isLt
    have hx1 : (x (1 : Fin 4)).val < 1 := (x (1 : Fin 4)).isLt
    match a with
    | ⟨0, _⟩ => show cur.val = cur.val + (x (0 : Fin 4)).val; omega
    | ⟨1, _⟩ => show hd.val = hd.val + (x (1 : Fin 4)).val; omega
    | ⟨2, _⟩ => rfl
    | ⟨3, _⟩ => show (x (3 : Fin 4)).val = 0 + (x (3 : Fin 4)).val; omega

theorem strip_miss (v8 : View sig' κ sp S2x2x2048x512 .bf16) (f8 : v8.ty.Contents (Elt F))
    (v7 : View sig' κ sp S2x2x2048x512 .f32) (f7 : v7.ty.Contents (Elt F)) (cur hd : Fin 2) (M : FVec F S1x512 .f32)
    (y : S2x2x2048x512.Idx) (h : (y 0).val ≠ cur.val ∨ (y 1).val ≠ hd.val) :
    v8.read (Elt F) (v8.writes (Elt F) f8 (stripList v7 f7 cur hd M)) y = v8.read (Elt F) f8 y := by
  unfold stripList
  rcases h with h | h
  · refine View.read_tilePieces_miss v8 f8 _ _ _ _ 64 (Nat.le_refl 64) y (0 : Fin 4) fun i' _ => ?_
    show (y 0).val < cur.val ∨ cur.val + 1 ≤ (y 0).val
    omega
  · refine View.read_tilePieces_miss v8 f8 _ _ _ _ 64 (Nat.le_refl 64) y (1 : Fin 4) fun i' _ => ?_
    show (y 1).val < hd.val ∨ hd.val + 1 ≤ (y 1).val
    omega

/-- The numerators buffer read after both heads' stores. -/
theorem read_p (v8 : View sig' κ sp S2x2x2048x512 .bf16) (f8 : v8.ty.Contents (Elt F))
    (v7 : View sig' κ sp S2x2x2048x512 .f32) (f7 : v7.ty.Contents (Elt F)) (cur : Fin 2) (M : Fin 2 → FVec F S1x512 .f32) :
    v8.read (Elt F) (v8.writes (Elt F) f8 (stripList v7 f7 cur 1 (M 1) ++ stripList v7 f7 cur 0 (M 0)))
      = pNext cur M (v7.read (Elt F) f7) (v8.read (Elt F) f8) := by
  funext y
  obtain ⟨y0, y1, y2, y3, rfl⟩ : ∃ (a : Fin 2) (b : Fin 2) (c : Fin 2048) (d : Fin 512), y = ix4 a b c d :=
    ⟨y 0, y 1, y 2, y 3, eq_ix4 y⟩
  rw [View.writes_append]
  unfold pNext
  by_cases h0 : y0 = cur
  · subst h0
    refine Eq.trans ?_ (if_pos rfl).symm
    by_cases h1 : y1 = 1
    · subst h1
      exact strip_hit v8 _ v7 f7 y0 1 (M 1) (ix4 y0 1 y2 y3) rfl rfl
    · obtain rfl : y1 = 0 := by omega
      exact (strip_miss v8 _ v7 f7 y0 1 (M 1) (ix4 y0 0 y2 y3) (.inr (by show (0 : ℕ) ≠ 1; omega))).trans
        (strip_hit v8 f8 v7 f7 y0 0 (M 0) (ix4 y0 0 y2 y3) rfl rfl)
  · have h : y0.val ≠ cur.val := fun h => h0 (Fin.ext h)
    refine Eq.trans ?_ (if_neg h).symm
    exact (strip_miss v8 _ v7 f7 cur 1 (M 1) (ix4 y0 y1 y2 y3) (.inl h)).trans
      (strip_miss v8 f8 v7 f7 cur 0 (M 0) (ix4 y0 y1 y2 y3) (.inl h))

/-- The scores buffer read after both heads' stores. -/
theorem read_s (v7 : View sig' κ sp S2x2x2048x512 .f32) (f7 : v7.ty.Contents (Elt F)) (nxt : Fin 2)
    (blk : Fin 2 → FVec F S2048x512 .f32)
    (inb1 : ∀ a, (![nxt.val, 1, 0, 0] : Fin 4 → ℕ) a + S1x1x2048x512.size a ≤ S2x2x2048x512.size a)
    (inb0 : ∀ a, (![nxt.val, 0, 0, 0] : Fin 4 → ℕ) a + S1x1x2048x512.size a ≤ S2x2x2048x512.size a) :
    v7.read (Elt F) (v7.writes (Elt F) f7
        [⟨Rect.unit (s := S2x2x2048x512) ![nxt.val, 1, 0, 0] S1x1x2048x512.size inb1, shapeCast S1x1x2048x512 (blk 1) shapeCasts_S2048x512_S1x1x2048x512⟩,
         ⟨Rect.unit (s := S2x2x2048x512) ![nxt.val, 0, 0, 0] S1x1x2048x512.size inb0, shapeCast S1x1x2048x512 (blk 0) shapeCasts_S2048x512_S1x1x2048x512⟩])
      = sNext nxt blk (v7.read (Elt F) f7) := by
  funext y
  obtain ⟨y0, y1, y2, y3, rfl⟩ : ∃ (a : Fin 2) (b : Fin 2) (c : Fin 2048) (d : Fin 512), y = ix4 a b c d :=
    ⟨y 0, y 1, y 2, y 3, eq_ix4 y⟩
  unfold sNext
  by_cases h0 : y0 = nxt
  · subst h0
    refine Eq.trans ?_ (if_pos rfl).symm
    by_cases h1 : y1 = 1
    · subst h1
      rw [View.read_writes_cons_unit_of_mem (s := S2x2x2048x512) v7 f7 inb1 _ _ _ (ix4 (0 : Fin 1) (0 : Fin 1) y2 y3) rfl fun a => by
        match a with
        | ⟨0, _⟩ => rfl
        | ⟨1, _⟩ => rfl
        | ⟨2, _⟩ => show y2.val = 0 + y2.val; omega
        | ⟨3, _⟩ => show y3.val = 0 + y3.val; omega]
      pointwise
    · obtain rfl : y1 = 0 := by omega
      rw [View.read_writes_cons_unit_of_not_mem (s := S2x2x2048x512) v7 f7 inb1 _ _ _ rfl (1 : Fin 4) (.inl (by show 0 < 1; omega)),
        View.read_writes_cons_unit_of_mem (s := S2x2x2048x512) v7 f7 inb0 _ _ _ (ix4 (0 : Fin 1) (0 : Fin 1) y2 y3) rfl fun a => by
        match a with
        | ⟨0, _⟩ => rfl
        | ⟨1, _⟩ => rfl
        | ⟨2, _⟩ => show y2.val = 0 + y2.val; omega
        | ⟨3, _⟩ => show y3.val = 0 + y3.val; omega]
      pointwise
  · have h : y0.val ≠ nxt.val := fun h => h0 (Fin.ext h)
    refine Eq.trans ?_ (if_neg h).symm
    rw [View.read_writes_cons_unit_of_not_mem (s := S2x2x2048x512) v7 f7 inb1 _ _ _ rfl (0 : Fin 4) (by
        show y0.val < nxt.val ∨ nxt.val + 1 ≤ y0.val; omega),
      View.read_writes_cons_unit_of_not_mem (s := S2x2x2048x512) v7 f7 inb0 _ _ _ rfl (0 : Fin 4) (by
        show y0.val < nxt.val ∨ nxt.val + 1 ≤ y0.val; omega)]
    rfl

/-- The accumulators read after both heads' stores. -/
theorem read_a (v9 : View sig' κ sp S2x80x512 .f32) (f9 : v9.ty.Contents (Elt F))
    (inb1 : ∀ a, (![1, 0, 0] : Fin 3 → ℕ) a + S1x80x512.size a ≤ S2x80x512.size a)
    (inb0 : ∀ a, (![0, 0, 0] : Fin 3 → ℕ) a + S1x80x512.size a ≤ S2x80x512.size a)
    (w1 w0 : S1x80x512.Idx → Elt F .f32) :
    v9.read (Elt F) (v9.writes (Elt F) f9
        [⟨Rect.unit (s := S2x80x512) ![1, 0, 0] S1x80x512.size inb1, w1⟩, ⟨Rect.unit (s := S2x80x512) ![0, 0, 0] S1x80x512.size inb0, w0⟩])
      = fun y => if (y 0).val = 1 then w1 (ix3 0 (y 1) (y 2)) else w0 (ix3 0 (y 1) (y 2)) := by
  funext y
  obtain ⟨y0, y1, y2, rfl⟩ : ∃ (a : Fin 2) (b : Fin 80) (c : Fin 512), y = ix3 a b c := ⟨y 0, y 1, y 2, eq_ix3 y⟩
  by_cases h1 : y0 = 1
  · subst h1
    rw [View.read_writes_cons_unit_of_mem (s := S2x80x512) v9 f9 inb1 _ _ _ (ix3 (0 : Fin 1) y1 y2) rfl fun a => by
        match a with
        | ⟨0, _⟩ => rfl
        | ⟨1, _⟩ => show y1.val = 0 + y1.val; omega
        | ⟨2, _⟩ => show y2.val = 0 + y2.val; omega]
    rfl
  · obtain rfl : y0 = 0 := by omega
    rw [View.read_writes_cons_unit_of_not_mem (s := S2x80x512) v9 f9 inb1 _ _ _ rfl (0 : Fin 3) (.inl (by show 0 < 1; omega)),
      View.read_writes_cons_unit_of_mem (s := S2x80x512) v9 f9 inb0 _ _ _ (ix3 (0 : Fin 1) y1 y2) rfl fun a => by
        match a with
        | ⟨0, _⟩ => rfl
        | ⟨1, _⟩ => show y1.val = 0 + y1.val; omega
        | ⟨2, _⟩ => show y2.val = 0 + y2.val; omega]
    rfl

end Stores

end Cert.Mla
end
-- ==== Proof.Trip.lean ====
module

public import proofs.«01_k».proof.Proof.Steps

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The two heads' running maxima after a trip that starts at carry `acc`. -/
def mOf (acc : Carry F) : Fin 2 → FVec F S1x512 .f32 := ![mNew acc.1 acc.2.2.1, mNew acc.2.2.2.1 acc.2.2.2.2.2]

/-- The two heads' factors carried into a trip. -/
def alOf (acc : Carry F) : Fin 2 → FVec F S1x512 .f32 := ![acc.2.1, acc.2.2.2.2.1]

/-- The two heads' score blocks a trip makes. -/
def blkOf (kk : S1x2x16384x128.Idx → Elt F .bf16) (qq : S1x2x32x128x512.Idx → Elt F .bf16) (i : grid0.Coords)
    (k : Fin (k0_t1_loop i).trips) : Fin 2 → FVec F S2048x512 .f32 := fun hd =>
  scoreBlk kk qq hd ⟨cNext k.val, cNext_lt (trip_lt i k)⟩ ⟨qNext i k.val, qNext_lt i k.val⟩

/-- The carry after a trip. -/
def carryNext (blk : Fin 2 → FVec F S2048x512 .f32) (acc : Carry F) : Carry F :=
  (mNew acc.1 acc.2.2.1, alphaNew acc.1 acc.2.2.1, mxOf (blk 0),
    mNew acc.2.2.2.1 acc.2.2.2.2.2, alphaNew acc.2.2.2.1 acc.2.2.2.2.2, mxOf (blk 1))

/-- The buffers and the carry after a trip, from those before it. -/
structure TripTo (kk : S1x2x16384x128.Idx → Elt F .bf16) (qq : S1x2x32x128x512.Idx → Elt F .bf16)
    (vv : S1x2x8x80x2048.Idx → Elt F .bf16) (i : grid0.Coords) (k : Fin (k0_t1_loop i).trips) (acc acc' : Carry F)
    (o o' : S1x512x128.Idx → Elt F .bf16) (s s' : S2x2x2048x512.Idx → Elt F .f32)
    (p p' : S2x2x2048x512.Idx → Elt F .bf16) (a a' : S2x80x512.Idx → Elt F .f32) (cur nxt : Fin 2) : Prop where
  hacc : acc' = carryNext (blkOf kk qq i k) acc
  hs : s' = sNext nxt (blkOf kk qq i k) s
  hp : p' = pNext cur (mOf acc) s p
  ha : a' = aNext nxt (alOf acc) vv ⟨cPrev k.val, cPrev_lt (trip_lt i k)⟩ p a
  ho : o' = if k.val = 0 ∧ 0 < qb i then outV a' else o

theorem load_k (v : View sig .tc .vmem S1x2x16384x128 .bf16) (f : v.ty.Contents (Elt F)) {off : Fin 4 → ℕ}
    (hd : Fin 2) (c : Fin 8) (heq : off = ![0, hd.val, 2048 * c.val, 0])
    (inb : ∀ a, off a + S1x1x2048x128.size a ≤ S1x2x16384x128.size a) :
    v.readAt (Elt F) (Rect.unit (s := S1x2x16384x128) off S1x1x2048x128.size inb).toLoadRect f
      = fun x => v.read (Elt F) f (ix4 0 hd ⟨2048 * c.val + (x 2).val, by have h : (x 2).val < 2048 := (x 2).isLt; omega⟩ (x 3)) := by
  funext x
  refine readAt_unit (s := S1x2x16384x128) v inb f x _ heq fun a => ?_
  have hx0 : (x (0 : Fin 4)).val < 1 := (x (0 : Fin 4)).isLt
  have hx1 : (x (1 : Fin 4)).val < 1 := (x (1 : Fin 4)).isLt
  match a with
  | ⟨0, _⟩ => show 0 = 0 + (x (0 : Fin 4)).val; omega
  | ⟨1, _⟩ => show hd.val = hd.val + (x (1 : Fin 4)).val; omega
  | ⟨2, _⟩ => rfl
  | ⟨3, _⟩ => show (x (3 : Fin 4)).val = 0 + (x (3 : Fin 4)).val; omega

theorem load_q (v : View sig .tc .vmem S1x2x32x128x512 .bf16) (f : v.ty.Contents (Elt F)) {off : Fin 5 → ℕ}
    (hd : Fin 2) (q : Fin 32) (heq : off = ![0, hd.val, q.val, 0, 0])
    (inb : ∀ a, off a + S1x1x1x128x512.size a ≤ S1x2x32x128x512.size a) :
    v.readAt (Elt F) (Rect.unit (s := S1x2x32x128x512) off S1x1x1x128x512.size inb).toLoadRect f
      = fun x => v.read (Elt F) f (ix5 0 hd q (x 3) (x 4)) := by
  funext x
  refine readAt_unit (s := S1x2x32x128x512) v inb f x _ heq fun a => ?_
  have hx0 : (x (0 : Fin 5)).val < 1 := (x (0 : Fin 5)).isLt
  have hx1 : (x (1 : Fin 5)).val < 1 := (x (1 : Fin 5)).isLt
  have hx2 : (x (2 : Fin 5)).val < 1 := (x (2 : Fin 5)).isLt
  match a with
  | ⟨0, _⟩ => show 0 = 0 + (x (0 : Fin 5)).val; omega
  | ⟨1, _⟩ => show hd.val = hd.val + (x (1 : Fin 5)).val; omega
  | ⟨2, _⟩ => show q.val = q.val + (x (2 : Fin 5)).val; omega
  | ⟨3, _⟩ => show (x (3 : Fin 5)).val = 0 + (x (3 : Fin 5)).val; omega
  | ⟨4, _⟩ => show (x (4 : Fin 5)).val = 0 + (x (4 : Fin 5)).val; omega

theorem load_v (v : View sig .tc .vmem S1x2x8x80x2048 .bf16) (f : v.ty.Contents (Elt F)) {off : Fin 5 → ℕ}
    (hd : Fin 2) (q : Fin 8) (heq : off = ![0, hd.val, q.val, 0, 0])
    (inb : ∀ a, off a + S1x1x1x80x2048.size a ≤ S1x2x8x80x2048.size a) :
    v.readAt (Elt F) (Rect.unit (s := S1x2x8x80x2048) off S1x1x1x80x2048.size inb).toLoadRect f
      = fun x => v.read (Elt F) f (ix5 0 hd q (x 3) (x 4)) := by
  funext x
  refine readAt_unit (s := S1x2x8x80x2048) v inb f x _ heq fun a => ?_
  have hx0 : (x (0 : Fin 5)).val < 1 := (x (0 : Fin 5)).isLt
  have hx1 : (x (1 : Fin 5)).val < 1 := (x (1 : Fin 5)).isLt
  have hx2 : (x (2 : Fin 5)).val < 1 := (x (2 : Fin 5)).isLt
  match a with
  | ⟨0, _⟩ => show 0 = 0 + (x (0 : Fin 5)).val; omega
  | ⟨1, _⟩ => show hd.val = hd.val + (x (1 : Fin 5)).val; omega
  | ⟨2, _⟩ => show q.val = q.val + (x (2 : Fin 5)).val; omega
  | ⟨3, _⟩ => show (x (3 : Fin 5)).val = 0 + (x (3 : Fin 5)).val; omega
  | ⟨4, _⟩ => show (x (4 : Fin 5)).val = 0 + (x (4 : Fin 5)).val; omega

theorem load_a (v : View sig .tc .vmem S2x80x512 .f32) (f : v.ty.Contents (Elt F)) (hd : Fin 2)
    (inb : ∀ a, (![hd.val, 0, 0] : Fin 3 → ℕ) a + S1x80x512.size a ≤ S2x80x512.size a) :
    v.readAt (Elt F) (Rect.unit (s := S2x80x512) ![hd.val, 0, 0] S1x80x512.size inb).toLoadRect f
      = fun x => v.read (Elt F) f (ix3 hd (x 1) (x 2)) := by
  funext x
  refine readAt_unit (s := S2x80x512) v inb f x _ rfl fun a => ?_
  have hx0 : (x (0 : Fin 3)).val < 1 := (x (0 : Fin 3)).isLt
  match a with
  | ⟨0, _⟩ => show hd.val = hd.val + (x (0 : Fin 3)).val; omega
  | ⟨1, _⟩ => show (x (1 : Fin 3)).val = 0 + (x (1 : Fin 3)).val; omega
  | ⟨2, _⟩ => show (x (2 : Fin 3)).val = 0 + (x (2 : Fin 3)).val; omega

theorem load_p (v : View sig .tc .vmem S2x2x2048x512 .bf16) (f : v.ty.Contents (Elt F)) (nxt hd : Fin 2)
    (inb : ∀ a, (![nxt.val, hd.val, 0, 0] : Fin 4 → ℕ) a + S1x1x2048x512.size a ≤ S2x2x2048x512.size a) :
    v.readAt (Elt F) (Rect.unit (s := S2x2x2048x512) ![nxt.val, hd.val, 0, 0] S1x1x2048x512.size inb).toLoadRect f
      = fun x => v.read (Elt F) f (ix4 nxt hd (x 2) (x 3)) := by
  funext x
  refine readAt_unit (s := S2x2x2048x512) v inb f x _ rfl fun a => ?_
  have hx0 : (x (0 : Fin 4)).val < 1 := (x (0 : Fin 4)).isLt
  have hx1 : (x (1 : Fin 4)).val < 1 := (x (1 : Fin 4)).isLt
  match a with
  | ⟨0, _⟩ => show nxt.val = nxt.val + (x (0 : Fin 4)).val; omega
  | ⟨1, _⟩ => show hd.val = hd.val + (x (1 : Fin 4)).val; omega
  | ⟨2, _⟩ => show (x (2 : Fin 4)).val = 0 + (x (2 : Fin 4)).val; omega
  | ⟨3, _⟩ => show (x (3 : Fin 4)).val = 0 + (x (3 : Fin 4)).val; omega

/-- The score block of a trip, from the loads it makes. -/
theorem blk_eq (v4 : View sig .tc .vmem S1x2x16384x128 .bf16) (f4 : v4.ty.Contents (Elt F))
    (v3 : View sig .tc .vmem S1x2x32x128x512 .bf16) (f3 : v3.ty.Contents (Elt F)) (i : grid0.Coords)
    (k : Fin (k0_t1_loop i).trips) (hd : Fin 2) {off4 : Fin 4 → ℕ} {off3 : Fin 5 → ℕ}
    (h4 : off4 = ![0, hd.val, 2048 * cNext k.val, 0]) (h3 : off3 = ![0, hd.val, qNext i k.val, 0, 0])
    (inb4 : ∀ a, off4 a + S1x1x2048x128.size a ≤ S1x2x16384x128.size a)
    (inb3 : ∀ a, off3 a + S1x1x1x128x512.size a ≤ S1x2x32x128x512.size a) :
    k0_pay20 (F := F) (v4.readAt (Elt F) (Rect.unit (s := S1x2x16384x128) off4 S1x1x2048x128.size inb4).toLoadRect f4)
        (v3.readAt (Elt F) (Rect.unit (s := S1x2x32x128x512) off3 S1x1x1x128x512.size inb3).toLoadRect f3)
      = blkOf (v4.read (Elt F) f4) (v3.read (Elt F) f3) i k hd := by
  rw [load_k v4 f4 hd ⟨cNext k.val, cNext_lt (trip_lt i k)⟩ h4 inb4, load_q v3 f3 hd ⟨qNext i k.val, qNext_lt i k.val⟩ h3 inb3]
  rfl

/-- The accumulators after a trip, from the two stores it makes. -/
theorem acc_eq (v9 : View sig .tc .vmem S2x80x512 .f32) (f9 g9 : v9.ty.Contents (Elt F))
    (v8 : View sig .tc .vmem S2x2x2048x512 .bf16) (f8 : v8.ty.Contents (Elt F))
    (v5 : View sig .tc .vmem S1x2x8x80x2048 .bf16) (f5 : v5.ty.Contents (Elt F)) (i : grid0.Coords)
    (k : Fin (k0_t1_loop i).trips) (nxt : Fin 2) (al : Fin 2 → FVec F S1x512 .f32) {offa offb : Fin 5 → ℕ}
    (ha : offa = ![0, 0, cPrev k.val, 0, 0]) (hb : offb = ![0, 1, cPrev k.val, 0, 0])
    (inba : ∀ a, offa a + S1x1x1x80x2048.size a ≤ S1x2x8x80x2048.size a)
    (inbb : ∀ a, offb a + S1x1x1x80x2048.size a ≤ S1x2x8x80x2048.size a)
    (inb1 : ∀ a, (![1, 0, 0] : Fin 3 → ℕ) a + S1x80x512.size a ≤ S2x80x512.size a)
    (inb0 : ∀ a, (![0, 0, 0] : Fin 3 → ℕ) a + S1x80x512.size a ≤ S2x80x512.size a)
    (inp1 : ∀ a, (![nxt.val, 1, 0, 0] : Fin 4 → ℕ) a + S1x1x2048x512.size a ≤ S2x2x2048x512.size a)
    (inp0 : ∀ a, (![nxt.val, 0, 0, 0] : Fin 4 → ℕ) a + S1x1x2048x512.size a ≤ S2x2x2048x512.size a) :
    v9.read (Elt F) (v9.writes (Elt F) g9
        [⟨Rect.unit (s := S2x80x512) ![1, 0, 0] S1x80x512.size inb1,
          k0_pay104 (F := F) (al 1) (v5.readAt (Elt F) (Rect.unit (s := S1x2x8x80x2048) offb S1x1x1x80x2048.size inbb).toLoadRect f5)
            (v9.readAt (Elt F) (Rect.unit (s := S2x80x512) ![1, 0, 0] S1x80x512.size inb1).toLoadRect f9)
            (v8.readAt (Elt F) (Rect.unit (s := S2x2x2048x512) ![nxt.val, 1, 0, 0] S1x1x2048x512.size inp1).toLoadRect f8)⟩,
         ⟨Rect.unit (s := S2x80x512) ![0, 0, 0] S1x80x512.size inb0,
          k0_pay104 (F := F) (al 0) (v5.readAt (Elt F) (Rect.unit (s := S1x2x8x80x2048) offa S1x1x1x80x2048.size inba).toLoadRect f5)
            (v9.readAt (Elt F) (Rect.unit (s := S2x80x512) ![0, 0, 0] S1x80x512.size inb0).toLoadRect f9)
            (v8.readAt (Elt F) (Rect.unit (s := S2x2x2048x512) ![nxt.val, 0, 0, 0] S1x1x2048x512.size inp0).toLoadRect f8)⟩])
      = aNext nxt al (v5.read (Elt F) f5) ⟨cPrev k.val, cPrev_lt (trip_lt i k)⟩ (v8.read (Elt F) f8) (v9.read (Elt F) f9) := by
  rw [read_a]
  have e5a := load_v v5 f5 0 ⟨cPrev k.val, cPrev_lt (trip_lt i k)⟩ ha inba
  have e5b := load_v v5 f5 1 ⟨cPrev k.val, cPrev_lt (trip_lt i k)⟩ hb inbb
  have e90 := load_a v9 f9 0 inb0
  have e91 := load_a v9 f9 1 inb1
  have e80 := load_p v8 f8 nxt 0 inp0
  have e81 := load_p v8 f8 nxt 1 inp1
  funext y
  obtain ⟨y0, y1, y2, rfl⟩ : ∃ (a : Fin 2) (b : Fin 80) (c : Fin 512), y = ix3 a b c := ⟨y 0, y 1, y 2, eq_ix3 y⟩
  by_cases h1 : y0 = 1
  · subst h1
    refine (if_pos rfl).trans ?_
    refine (congrFun (congr (congr (congrArg (k0_pay104 (F := F) (al 1)) e5b) e91) e81) _).trans ?_
    rfl
  · obtain rfl : y0 = 0 := by omega
    refine (if_neg (show ¬ (0 : ℕ) = 1 by omega)).trans ?_
    refine (congrFun (congr (congr (congrArg (k0_pay104 (F := F) (al 0)) e5a) e90) e80) _).trans ?_
    rfl

/-- The output block after the store of the quotient. -/
theorem out_eq (v6 : View sig .tc .vmem S1x512x128 .bf16) (f6 : v6.ty.Contents (Elt F)) (w : S1x512x128.Idx → Elt F .bf16)
    (inb : ∀ a, (![0, 0, 0] : Fin 3 → ℕ) a + S1x512x128.size a ≤ S1x512x128.size a) :
    v6.read (Elt F) (v6.writes (Elt F) f6 [⟨Rect.unit (s := S1x512x128) ![0, 0, 0] S1x512x128.size inb, w⟩]) = w := by
  funext y
  rw [View.read_writes_cons_unit_of_mem (s := S1x512x128) v6 f6 inb _ _ _ y rfl fun a => by
    match a with
    | ⟨0, _⟩ => exact (Nat.zero_add _).symm
    | ⟨1, _⟩ => exact (Nat.zero_add _).symm
    | ⟨2, _⟩ => exact (Nat.zero_add _).symm]

section
variable (c : Dev nD) (i : grid0.Coords)
  (arg3 : Memref sig .tc .vmem S1x2x32x128x512 .bf16) (harg3 : arg3.IsWhole)
  (arg4 : Memref sig .tc .vmem S1x2x16384x128 .bf16) (harg4 : arg4.IsWhole)
  (arg5 : Memref sig .tc .vmem S1x2x8x80x2048 .bf16) (harg5 : arg5.IsWhole)
  (arg6 : Memref sig .tc .vmem S1x512x128 .bf16) (harg6 : arg6.IsWhole)
  (arg7 : Memref sig .tc .vmem S2x2x2048x512 .f32) (harg7 : arg7.IsWhole)
  (arg8 : Memref sig .tc .vmem S2x2x2048x512 .bf16) (harg8 : arg8.IsWhole)
  (arg9 : Memref sig .tc .vmem S2x80x512 .f32) (harg9 : arg9.IsWhole)
  (arg10 : Memref sig .tc .vmem S2x2x1x512 .f32) (harg10 : arg10.IsWhole) (arg2 v0 : BitVec 32)

/-- What a trip leaves: the buffers, at contents `TripTo` relates to those found. -/
abbrev tripEnd (k : Fin (k0_t1_loop i).trips) (cur nxt : Fin 2) (acc : Carry F)
    (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F))
    (acc' : Carry F) : sProp 𝕄 :=
  iprop(∃ f6' f7' f8' f9', own c arg3 f3 ∗ own c arg4 f4 ∗ own c arg5 f5 ∗ own c arg6 f6' ∗ own c arg7 f7' ∗ own c arg8 f8' ∗ own c arg9 f9' ∗
    ⌜TripTo (arg4.view.read (Elt F) f4) (arg3.view.read (Elt F) f3) (arg5.view.read (Elt F) f5) i k acc acc' (arg6.view.read (Elt F) f6) (arg6.view.read (Elt F) f6')
      (arg7.view.read (Elt F) f7) (arg7.view.read (Elt F) f7') (arg8.view.read (Elt F) f8) (arg8.view.read (Elt F) f8')
      (arg9.view.read (Elt F) f9) (arg9.view.read (Elt F) f9') cur nxt⌝)

end

end Cert.Mla
end
-- ==== Proof.TripRun.lean ====
module

public import proofs.«01_k».proof.Proof.Trip

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (i : grid0.Coords)
  (arg3 : Memref sig .tc .vmem S1x2x32x128x512 .bf16) (harg3 : arg3.IsWhole)
  (arg4 : Memref sig .tc .vmem S1x2x16384x128 .bf16) (harg4 : arg4.IsWhole)
  (arg5 : Memref sig .tc .vmem S1x2x8x80x2048 .bf16) (harg5 : arg5.IsWhole)
  (arg6 : Memref sig .tc .vmem S1x512x128 .bf16) (harg6 : arg6.IsWhole)
  (arg7 : Memref sig .tc .vmem S2x2x2048x512 .f32) (harg7 : arg7.IsWhole)
  (arg8 : Memref sig .tc .vmem S2x2x2048x512 .bf16) (harg8 : arg8.IsWhole)
  (arg9 : Memref sig .tc .vmem S2x80x512 .f32) (harg9 : arg9.IsWhole)
  (arg10 : Memref sig .tc .vmem S2x2x1x512 .f32) (harg10 : arg10.IsWhole) (arg2 v0 : BitVec 32)

/-- An even trip that also writes the output block. -/
theorem tripEvenOut (k : Fin (k0_t1_loop i).trips) (h2 : k0_cond2 i k = 1#1) (h3 : k0_cond3 i k = 1#1) (acc : Carry F)
    (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) :
    iprop(own c arg3 f3 ∗ own c arg4 f4 ∗ own c arg5 f5 ∗ own c arg6 f6 ∗ own c arg7 f7 ∗ own c arg8 f8 ∗ own c arg9 f9)
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg2 v0 k acc)
          (fun acc' => tripEnd c i arg3 arg4 arg5 arg6 arg7 arg8 arg9 k 0 1 acc f3 f4 f5 f6 f7 f8 f9 acc') := by
  obtain ⟨a12, a13, a14, a15, a16, a17⟩ := acc
  iintro ⟨H3, H4, H5, H6, H7, H8, H9⟩
  sl_unfold [k0_t1_body]
  sl_exec_parts
  sl_step
  iexists _, _, _, _
  iframe H3 H4 H5 H6 H7 H8 H9
  ipureintro
  have c1 := k0_off1_eq i k
  have c2 := k0_off2_eq i k
  have c4 := k0_off4_eq i k
  have c5 := k0_off5_eq i k
  have hb0 := blk_eq arg4.view f4 arg3.view f3 i k 0 c1 c2
    (k0_off1_inb i k h2) (k0_off2_inb i k h2)
  have hb1 := blk_eq arg4.view f4 arg3.view f3 i k 1 c4 c5
    (k0_off4_inb i k h2) (k0_off5_inb i k h2)
  have hp := read_p (F := F) arg8.view f8 arg7.view f7 0 (mOf (a12, a13, a14, a15, a16, a17))
  have hs := read_s (F := F) arg7.view f7 1 (blkOf (arg4.view.read (Elt F) f4) (arg3.view.read (Elt F) f3) i k)
    inb_S2x2x2048x512_S1x1x2048x512_1_1_0_0 inb_S2x2x2048x512_S1x1x2048x512_1_0_0_0
  have ha := acc_eq (F := F) arg9.view f9 f9 arg8.view f8 arg5.view f5 i k 1 (alOf (a12, a13, a14, a15, a16, a17))
    (off3_eq i k) (off6_eq i k) (k0_off3_inb i k h2) (k0_off6_inb i k h2)
    inb_S2x80x512_S1x80x512_1_0_0 inb_S2x80x512_S1x80x512_0_0_0
    inb_S2x2x2048x512_S1x1x2048x512_1_1_0_0 inb_S2x2x2048x512_S1x1x2048x512_1_0_0_0
  refine ⟨?_, ?_, ?_, ?_, ?_⟩
  · rw [carryNext, ← hb0, ← hb1]; rfl
  · rw [← hs, ← hb0, ← hb1]; rfl
  · exact hp
  · exact ha
  · rw [if_pos ((cond3_iff i k).1 h3)]
    refine Eq.trans ?_ (congrArg outV ha).symm
    refine Eq.trans (out_eq arg6.view f6 _ inb_S1x512x128_S1x512x128_0_0_0) ?_
    have e0 := load_a arg9.view (arg9.view.writes (Elt F) arg9.view.junk (tripEvenOut.sl.H9_2 i arg5 arg8 arg9 k h2 f5 f8 f9 a13 a16)) 0
      inb_S2x80x512_S1x80x512_0_0_0
    have e1 := load_a arg9.view (arg9.view.writes (Elt F) arg9.view.junk (tripEvenOut.sl.H9_2 i arg5 arg8 arg9 k h2 f5 f8 f9 a13 a16)) 1
      inb_S2x80x512_S1x80x512_1_0_0
    have hj := (acc_eq (F := F) arg9.view f9 arg9.view.junk arg8.view f8 arg5.view f5 i k 1 (alOf (a12, a13, a14, a15, a16, a17))
      (off3_eq i k) (off6_eq i k) (k0_off3_inb i k h2) (k0_off6_inb i k h2)
      inb_S2x80x512_S1x80x512_1_0_0 inb_S2x80x512_S1x80x512_0_0_0
      inb_S2x2x2048x512_S1x1x2048x512_1_1_0_0 inb_S2x2x2048x512_S1x1x2048x512_1_0_0_0)
    refine Eq.trans ?_ (congrArg outV hj)
    exact congr (congrArg (k0_pay751 (F := F)) e0) e1

end Cert.Mla
end
-- ==== Proof.TripRunB.lean ====
module

public import proofs.«01_k».proof.Proof.Trip

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (i : grid0.Coords)
  (arg3 : Memref sig .tc .vmem S1x2x32x128x512 .bf16) (harg3 : arg3.IsWhole)
  (arg4 : Memref sig .tc .vmem S1x2x16384x128 .bf16) (harg4 : arg4.IsWhole)
  (arg5 : Memref sig .tc .vmem S1x2x8x80x2048 .bf16) (harg5 : arg5.IsWhole)
  (arg6 : Memref sig .tc .vmem S1x512x128 .bf16) (harg6 : arg6.IsWhole)
  (arg7 : Memref sig .tc .vmem S2x2x2048x512 .f32) (harg7 : arg7.IsWhole)
  (arg8 : Memref sig .tc .vmem S2x2x2048x512 .bf16) (harg8 : arg8.IsWhole)
  (arg9 : Memref sig .tc .vmem S2x80x512 .f32) (harg9 : arg9.IsWhole)
  (arg10 : Memref sig .tc .vmem S2x2x1x512 .f32) (harg10 : arg10.IsWhole) (arg2 v0 : BitVec 32)

/-- An even trip that writes no output. -/
theorem tripEven (k : Fin (k0_t1_loop i).trips) (h2 : k0_cond2 i k = 1#1) (h3 : ¬ k0_cond3 i k = 1#1) (acc : Carry F)
    (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) :
    iprop(own c arg3 f3 ∗ own c arg4 f4 ∗ own c arg5 f5 ∗ own c arg6 f6 ∗ own c arg7 f7 ∗ own c arg8 f8 ∗ own c arg9 f9)
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg2 v0 k acc)
          (fun acc' => tripEnd c i arg3 arg4 arg5 arg6 arg7 arg8 arg9 k 0 1 acc f3 f4 f5 f6 f7 f8 f9 acc') := by
  obtain ⟨a12, a13, a14, a15, a16, a17⟩ := acc
  iintro ⟨H3, H4, H5, H6, H7, H8, H9⟩
  sl_unfold [k0_t1_body]
  sl_exec_parts
  sl_step
  iexists _, _, _, _
  iframe H3 H4 H5 H6 H7 H8 H9
  ipureintro
  have c1 := k0_off1_eq i k
  have c2 := k0_off2_eq i k
  have c4 := k0_off4_eq i k
  have c5 := k0_off5_eq i k
  have hb0 := blk_eq arg4.view f4 arg3.view f3 i k 0 c1 c2
    (k0_off1_inb i k h2) (k0_off2_inb i k h2)
  have hb1 := blk_eq arg4.view f4 arg3.view f3 i k 1 c4 c5
    (k0_off4_inb i k h2) (k0_off5_inb i k h2)
  have hp := read_p (F := F) arg8.view f8 arg7.view f7 0 (mOf (a12, a13, a14, a15, a16, a17))
  have hs := read_s (F := F) arg7.view f7 1 (blkOf (arg4.view.read (Elt F) f4) (arg3.view.read (Elt F) f3) i k)
    inb_S2x2x2048x512_S1x1x2048x512_1_1_0_0 inb_S2x2x2048x512_S1x1x2048x512_1_0_0_0
  have ha := acc_eq (F := F) arg9.view f9 f9 arg8.view f8 arg5.view f5 i k 1 (alOf (a12, a13, a14, a15, a16, a17))
    (off3_eq i k) (off6_eq i k) (k0_off3_inb i k h2) (k0_off6_inb i k h2)
    inb_S2x80x512_S1x80x512_1_0_0 inb_S2x80x512_S1x80x512_0_0_0
    inb_S2x2x2048x512_S1x1x2048x512_1_1_0_0 inb_S2x2x2048x512_S1x1x2048x512_1_0_0_0
  refine ⟨?_, ?_, ?_, ?_, ?_⟩
  · rw [carryNext, ← hb0, ← hb1]; rfl
  · rw [← hs, ← hb0, ← hb1]; rfl
  · exact hp
  · exact ha
  · rw [if_neg fun h => h3 ((cond3_iff i k).2 h)]

/-- An odd trip that writes no output. -/
theorem tripOdd (k : Fin (k0_t1_loop i).trips) (h2 : ¬ k0_cond2 i k = 1#1) (h3 : ¬ k0_cond3 i k = 1#1) (acc : Carry F)
    (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) :
    iprop(own c arg3 f3 ∗ own c arg4 f4 ∗ own c arg5 f5 ∗ own c arg6 f6 ∗ own c arg7 f7 ∗ own c arg8 f8 ∗ own c arg9 f9)
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg2 v0 k acc)
          (fun acc' => tripEnd c i arg3 arg4 arg5 arg6 arg7 arg8 arg9 k 1 0 acc f3 f4 f5 f6 f7 f8 f9 acc') := by
  obtain ⟨a12, a13, a14, a15, a16, a17⟩ := acc
  iintro ⟨H3, H4, H5, H6, H7, H8, H9⟩
  sl_unfold [k0_t1_body]
  sl_exec_parts
  sl_step
  iexists _, _, _, _
  iframe H3 H4 H5 H6 H7 H8 H9
  ipureintro
  have c1 := k0_off7_eq i k
  have c2 := k0_off8_eq i k
  have c4 := k0_off10_eq i k
  have c5 := k0_off11_eq i k
  have hb0 := blk_eq arg4.view f4 arg3.view f3 i k 0 c1 c2
    (k0_off7_inb i k h2) (k0_off8_inb i k h2)
  have hb1 := blk_eq arg4.view f4 arg3.view f3 i k 1 c4 c5
    (k0_off10_inb i k h2) (k0_off11_inb i k h2)
  have hp := read_p (F := F) arg8.view f8 arg7.view f7 1 (mOf (a12, a13, a14, a15, a16, a17))
  have hs := read_s (F := F) arg7.view f7 0 (blkOf (arg4.view.read (Elt F) f4) (arg3.view.read (Elt F) f3) i k)
    inb_S2x2x2048x512_S1x1x2048x512_0_1_0_0 inb_S2x2x2048x512_S1x1x2048x512_0_0_0_0
  have ha := acc_eq (F := F) arg9.view f9 f9 arg8.view f8 arg5.view f5 i k 0 (alOf (a12, a13, a14, a15, a16, a17))
    (off9_eq i k) (off12_eq i k) (k0_off9_inb i k h2) (k0_off12_inb i k h2)
    inb_S2x80x512_S1x80x512_1_0_0 inb_S2x80x512_S1x80x512_0_0_0
    inb_S2x2x2048x512_S1x1x2048x512_0_1_0_0 inb_S2x2x2048x512_S1x1x2048x512_0_0_0_0
  refine ⟨?_, ?_, ?_, ?_, ?_⟩
  · rw [carryNext, ← hb0, ← hb1]; rfl
  · rw [← hs, ← hb0, ← hb1]; rfl
  · exact hp
  · exact ha
  · rw [if_neg fun h => h3 ((cond3_iff i k).2 h)]

end Cert.Mla
end
-- ==== Proof.Body.lean ====
module

public import proofs.«01_k».proof.Proof.TripRun
public import proofs.«01_k».proof.Proof.TripRunB

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- What the loop carries and changes: the carry, scores, numerators, accumulators and the output block. -/
@[ext] structure St (F : FTy → Type) [FloatOps F] where
  acc : Carry F
  s : S2x2x2048x512.Idx → Elt F .f32
  p : S2x2x2048x512.Idx → Elt F .bf16
  a : S2x80x512.Idx → Elt F .f32
  o : S1x512x128.Idx → Elt F .bf16

/-- The slot a trip reads its scores from. -/
def curOf (k : ℕ) : Fin 2 := ⟨k % 2, Nat.mod_lt _ (by omega)⟩

/-- The slot a trip writes its scores to. -/
def nxtOf (k : ℕ) : Fin 2 := ⟨(k + 1) % 2, Nat.mod_lt _ (by omega)⟩

/-- One trip, as a function. -/
def tripFn (kk : S1x2x16384x128.Idx → Elt F .bf16) (qq : S1x2x32x128x512.Idx → Elt F .bf16)
    (vv : S1x2x8x80x2048.Idx → Elt F .bf16) (i : grid0.Coords) (k : Fin (k0_t1_loop i).trips) (x : St F) : St F where
  acc := carryNext (blkOf kk qq i k) x.acc
  s := sNext (nxtOf k) (blkOf kk qq i k) x.s
  p := pNext (curOf k) (mOf x.acc) x.s x.p
  a := aNext (nxtOf k) (alOf x.acc) vv ⟨cPrev k.val, cPrev_lt (trip_lt i k)⟩ x.p x.a
  o := if k.val = 0 ∧ 0 < qb i then
    outV (aNext (nxtOf k) (alOf x.acc) vv ⟨cPrev k.val, cPrev_lt (trip_lt i k)⟩ x.p x.a) else x.o

/-- The first `n` trips. -/
def runTo (kk : S1x2x16384x128.Idx → Elt F .bf16) (qq : S1x2x32x128x512.Idx → Elt F .bf16)
    (vv : S1x2x8x80x2048.Idx → Elt F .bf16) (i : grid0.Coords) : ℕ → St F → St F
  | 0, x => x
  | n + 1, x => if h : n < (k0_t1_loop i).trips then tripFn kk qq vv i ⟨n, h⟩ (runTo kk qq vv i n x)
    else runTo kk qq vv i n x

theorem TripTo.eq {kk : S1x2x16384x128.Idx → Elt F .bf16} {qq : S1x2x32x128x512.Idx → Elt F .bf16}
    {vv : S1x2x8x80x2048.Idx → Elt F .bf16} {i : grid0.Coords} {k : Fin (k0_t1_loop i).trips} {acc acc' : Carry F}
    {o o' : S1x512x128.Idx → Elt F .bf16} {s s' : S2x2x2048x512.Idx → Elt F .f32}
    {p p' : S2x2x2048x512.Idx → Elt F .bf16} {a a' : S2x80x512.Idx → Elt F .f32}
    (h : TripTo kk qq vv i k acc acc' o o' s s' p p' a a' (curOf k) (nxtOf k)) :
    (⟨acc', s', p', a', o'⟩ : St F) = tripFn kk qq vv i k ⟨acc, s, p, a, o⟩ := by
  obtain ⟨h1, h2, h3, h4, h5⟩ := h
  rw [h4] at h5
  simp only [tripFn, St.mk.injEq]
  exact ⟨h1, h2, h3, h4, h5⟩

variable (c : Dev nD) (i : grid0.Coords)
  (arg3 : Memref sig .tc .vmem S1x2x32x128x512 .bf16) (harg3 : arg3.IsWhole)
  (arg4 : Memref sig .tc .vmem S1x2x16384x128 .bf16) (harg4 : arg4.IsWhole)
  (arg5 : Memref sig .tc .vmem S1x2x8x80x2048 .bf16) (harg5 : arg5.IsWhole)
  (arg6 : Memref sig .tc .vmem S1x512x128 .bf16) (harg6 : arg6.IsWhole)
  (arg7 : Memref sig .tc .vmem S2x2x2048x512 .f32) (harg7 : arg7.IsWhole)
  (arg8 : Memref sig .tc .vmem S2x2x2048x512 .bf16) (harg8 : arg8.IsWhole)
  (arg9 : Memref sig .tc .vmem S2x80x512 .f32) (harg9 : arg9.IsWhole)
  (arg10 : Memref sig .tc .vmem S2x2x1x512 .f32) (harg10 : arg10.IsWhole) (arg2 v0 : BitVec 32)

/-- One trip, whichever its slot and whether or not it writes the output. -/
theorem trip (k : Fin (k0_t1_loop i).trips) (acc : Carry F)
    (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) :
    iprop(own c arg3 f3 ∗ own c arg4 f4 ∗ own c arg5 f5 ∗ own c arg6 f6 ∗ own c arg7 f7 ∗ own c arg8 f8 ∗ own c arg9 f9)
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg2 v0 k acc)
          (fun acc' => tripEnd c i arg3 arg4 arg5 arg6 arg7 arg8 arg9 k (curOf k) (nxtOf k) acc f3 f4 f5 f6 f7 f8 f9 acc') := by
  by_cases h2 : k0_cond2 i k = 1#1
  · have e := (cond2_iff i k).1 h2
    have ec : curOf k = 0 := Fin.ext e
    have en : nxtOf k = 1 := Fin.ext (by show (k.val + 1) % 2 = 1; omega)
    rw [ec, en]
    by_cases h3 : k0_cond3 i k = 1#1
    · exact tripEvenOut c i arg3 harg3 arg4 harg4 arg5 harg5 arg6 harg6 arg7 harg7 arg8 harg8 arg9 harg9 arg10 harg10 arg2 v0 k h2 h3 acc f3 f4 f5 f6 f7 f8 f9
    · exact tripEven c i arg3 harg3 arg4 harg4 arg5 harg5 arg6 harg6 arg7 harg7 arg8 harg8 arg9 harg9 arg10 harg10 arg2 v0 k h2 h3 acc f3 f4 f5 f6 f7 f8 f9
  · have e : ¬ k.val % 2 = 0 := fun h => h2 ((cond2_iff i k).2 h)
    have ec : curOf k = 1 := Fin.ext (by show k.val % 2 = 1; omega)
    have en : nxtOf k = 0 := Fin.ext (by show (k.val + 1) % 2 = 0; omega)
    rw [ec, en]
    have h3 : ¬ k0_cond3 i k = 1#1 := fun h => e (by rw [((cond3_iff i k).1 h).1])
    exact tripOdd c i arg3 harg3 arg4 harg4 arg5 harg5 arg6 harg6 arg7 harg7 arg8 harg8 arg9 harg9 arg10 harg10 arg2 v0 k h2 h3 acc f3 f4 f5 f6 f7 f8 f9

/-- The buffers before trip `k`. -/
def loopAt (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (init : Carry F) (k : ℕ) (acc : Carry F) : sProp 𝕄 :=
  iprop(∃ g6 g7 g8 g9, own c arg3 f3 ∗ own c arg4 f4 ∗ own c arg5 f5 ∗ own c arg6 g6 ∗ own c arg7 g7 ∗ own c arg8 g8 ∗ own c arg9 g9 ∗
    ⌜(⟨acc, arg7.view.read (Elt F) g7, arg8.view.read (Elt F) g8, arg9.view.read (Elt F) g9, arg6.view.read (Elt F) g6⟩ : St F)
      = runTo (arg4.view.read (Elt F) f4) (arg3.view.read (Elt F) f3) (arg5.view.read (Elt F) f5) i k ⟨init, (arg7.view.read (Elt F) f7), (arg8.view.read (Elt F) f8), (arg9.view.read (Elt F) f9), (arg6.view.read (Elt F) f6)⟩⌝)

theorem loopAt_step (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (init : Carry F) (k : Fin (k0_t1_loop i).trips) (acc : Carry F) :
    loopAt c i arg3 arg4 arg5 arg6 arg7 arg8 arg9 f3 f4 f5 f6 f7 f8 f9 init k.val acc
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg2 v0 k acc)
          (loopAt c i arg3 arg4 arg5 arg6 arg7 arg8 arg9 f3 f4 f5 f6 f7 f8 f9 init (k.val + 1)) := by
  unfold loopAt
  iintro ⟨%g6, %g7, %g8, %g9, H3, H4, H5, H6, H7, H8, H9, %h⟩
  iapply (wp_wand_r frame (wpE (defs₀ (F := F)) 𝒱₀ (c : Thread nD τ) none) Set.univ)
  isplitl [H3 H4 H5 H6 H7 H8 H9]
  · iapply (trip c i arg3 harg3 arg4 harg4 arg5 harg5 arg6 harg6 arg7 harg7 arg8 harg8 arg9 harg9 arg10 harg10 arg2 v0 k acc f3 f4 f5 g6 g7 g8 g9)
    iframe H3 H4 H5 H6 H7 H8 H9
  · iintro %acc' ⟨%f6', %f7', %f8', %f9', H3, H4, H5, H6, H7, H8, H9, %h'⟩
    iexists f6', f7', f8', f9'
    iframe H3 H4 H5 H6 H7 H8 H9
    ipureintro
    rw [runTo, dif_pos k.isLt]
    exact h'.eq.trans (congrArg _ h)

set_option warn.classDefReducibility false in
/-- The loop's invariant. -/
@[sl_loop] def loopInv (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (init : Carry F) :
    LoopInvTy_k0_t1 (F := F) Unit ℕ (UU nD τ) ℕ 𝒱₀ c none Set.univ i arg3 harg3 arg4 harg4 arg5 harg5 arg6 harg6 arg7 harg7 arg8 harg8 arg9 harg9 arg10 harg10 arg2 v0 init where
  inv := loopAt c i arg3 arg4 arg5 arg6 arg7 arg8 arg9 f3 f4 f5 f6 f7 f8 f9 init
  step k acc := loopAt_step c i arg3 harg3 arg4 harg4 arg5 harg5 arg6 harg6 arg7 harg7 arg8 harg8 arg9 harg9 arg10 harg10 arg2 v0 f3 f4 f5 f6 f7 f8 f9 init k acc

theorem t2_trips : (k0_t2_loop i).trips = 0 := Nat.le_zero.mp (k0_t2_abs i).2.1

set_option warn.classDefReducibility false in
/-- The second loop makes no trips. -/
@[sl_loop] def loopInv2 (v20 : BitVec 32) (init : Carry F) :
    LoopInvTy_k0_t2 (F := F) Unit ℕ (UU nD τ) ℕ 𝒱₀ c none Set.univ i arg3 harg3 arg4 harg4 arg5 harg5 arg6 harg6 arg7 harg7 arg8 harg8 arg9 harg9 arg10 harg10 arg2 v0 v20 init :=
  LoopInv.ofNoTrips _ _ _ _ _ _ _ _ _ (t2_trips i)

end Cert.Mla
end
-- ==== Proof.BodyRun.lean ====
module

public import proofs.«01_k».proof.Proof.Body

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- A row as it is stored. -/
def sc (w : FVec F S1x512 .f32) : S1x1x1x512.Idx → Elt F .f32 := shapeCast S1x1x1x512 w shapeCasts_S1x512_S1x1x1x512

/-- The four rows handed from one query block to the next: `w00 w01` the first head's, `w10 w11` the second's. -/
def stMk (w00 w01 w10 w11 : S1x1x1x512.Idx → Elt F .f32) : S2x2x1x512.Idx → Elt F .f32 := fun y =>
  if (y 0).val = 1 then (if (y 1).val = 1 then w11 (ix4 0 0 0 (y 3)) else w10 (ix4 0 0 0 (y 3)))
  else (if (y 1).val = 1 then w01 (ix4 0 0 0 (y 3)) else w00 (ix4 0 0 0 (y 3)))

/-- The carry that a query block starts from. -/
def carryOf (st : S2x2x1x512.Idx → Elt F .f32) : Carry F :=
  (k0_pay743, k0_pay744 (fun x => st (ix4 0 1 0 (x 3))), k0_pay745 (fun x => st (ix4 0 0 0 (x 3))),
    k0_pay746, k0_pay747 (fun x => st (ix4 1 1 0 (x 3))), k0_pay748 (fun x => st (ix4 1 0 0 (x 3))))

/-- What of a carry the next query block starts from. -/
def hand (acc : Carry F) : Carry F :=
  (k0_pay743, acc.2.1, acc.2.2.1, k0_pay743, acc.2.2.2.2.1, acc.2.2.2.2.2)

theorem cast_row (w : FVec F S1x512 .f32) :
    shapeCast S1x512 (fun x : S1x1x1x512.Idx => sc w (ix4 0 0 0 (x 3))) shapeCasts_S1x1x1x512_S1x512 = w := by
  have e : (fun x : S1x1x1x512.Idx => sc w (ix4 0 0 0 (x 3))) = sc w := by
    funext x
    refine congrArg (sc w) ?_
    have h0 : (x (0 : Fin 4)).val < 1 := (x (0 : Fin 4)).isLt
    have h1 : (x (1 : Fin 4)).val < 1 := (x (1 : Fin 4)).isLt
    have h2 : (x (2 : Fin 4)).val < 1 := (x (2 : Fin 4)).isLt
    funext a
    match a with
    | ⟨0, _⟩ => exact Fin.ext (show 0 = (x (0 : Fin 4)).val by omega)
    | ⟨1, _⟩ => exact Fin.ext (show 0 = (x (1 : Fin 4)).val by omega)
    | ⟨2, _⟩ => exact Fin.ext (show 0 = (x (2 : Fin 4)).val by omega)
    | ⟨3, _⟩ => rfl
  rw [e]
  exact shapeCast_shapeCast w shapeCasts_S1x512_S1x1x1x512 shapeCasts_S1x1x1x512_S1x512

theorem carryOf_stMk (w00 w01 w10 w11 : FVec F S1x512 .f32) :
    carryOf (stMk (sc w00) (sc w01) (sc w10) (sc w11)) = (k0_pay743, w01, w00, k0_pay743, w11, w10) := by
  have e1 : k0_pay744 (fun x => stMk (sc w00) (sc w01) (sc w10) (sc w11) (ix4 0 1 0 (x 3))) = w01 := cast_row w01
  have e2 : k0_pay745 (fun x => stMk (sc w00) (sc w01) (sc w10) (sc w11) (ix4 0 0 0 (x 3))) = w00 := cast_row w00
  have e3 : k0_pay747 (fun x => stMk (sc w00) (sc w01) (sc w10) (sc w11) (ix4 1 1 0 (x 3))) = w11 := cast_row w11
  have e4 : k0_pay748 (fun x => stMk (sc w00) (sc w01) (sc w10) (sc w11) (ix4 1 0 0 (x 3))) = w10 := cast_row w10
  unfold carryOf
  rw [e1, e2, e3, e4]
  rfl

theorem load_st (v : View sig .tc .vmem S2x2x1x512 .f32) (f : v.ty.Contents (Elt F)) (h j : Fin 2)
    (inb : ∀ a, (![h.val, j.val, 0, 0] : Fin 4 → ℕ) a + S1x1x1x512.size a ≤ S2x2x1x512.size a) :
    v.readAt (Elt F) (Rect.unit (s := S2x2x1x512) ![h.val, j.val, 0, 0] S1x1x1x512.size inb).toLoadRect f
      = fun x => v.read (Elt F) f (ix4 h j 0 (x 3)) := by
  funext x
  refine readAt_unit (s := S2x2x1x512) v inb f x _ rfl fun a => ?_
  have hx0 : (x (0 : Fin 4)).val < 1 := (x (0 : Fin 4)).isLt
  have hx1 : (x (1 : Fin 4)).val < 1 := (x (1 : Fin 4)).isLt
  have hx2 : (x (2 : Fin 4)).val < 1 := (x (2 : Fin 4)).isLt
  match a with
  | ⟨0, _⟩ => show h.val = h.val + (x (0 : Fin 4)).val; omega
  | ⟨1, _⟩ => show j.val = j.val + (x (1 : Fin 4)).val; omega
  | ⟨2, _⟩ => show 0 = 0 + (x (2 : Fin 4)).val; omega
  | ⟨3, _⟩ => show (x (3 : Fin 4)).val = 0 + (x (3 : Fin 4)).val; omega

theorem carry_loads (v : View sig .tc .vmem S2x2x1x512 .f32) (f : v.ty.Contents (Elt F)) :
    ((k0_pay743,
      k0_pay744 (v.readAt (Elt F) (Rect.unit (s := S2x2x1x512) ![0, 1, 0, 0] S1x1x1x512.size inb_S2x2x1x512_S1x1x1x512_0_1_0_0).toLoadRect f),
      k0_pay745 (v.readAt (Elt F) (Rect.unit (s := S2x2x1x512) ![0, 0, 0, 0] S1x1x1x512.size inb_S2x2x1x512_S1x1x1x512_0_0_0_0).toLoadRect f),
      k0_pay746,
      k0_pay747 (v.readAt (Elt F) (Rect.unit (s := S2x2x1x512) ![1, 1, 0, 0] S1x1x1x512.size inb_S2x2x1x512_S1x1x1x512_1_1_0_0).toLoadRect f),
      k0_pay748 (v.readAt (Elt F) (Rect.unit (s := S2x2x1x512) ![1, 0, 0, 0] S1x1x1x512.size inb_S2x2x1x512_S1x1x1x512_1_0_0_0).toLoadRect f)) : Carry F)
      = carryOf (v.read (Elt F) f) :=
  Prod.ext rfl (Prod.ext (congrArg k0_pay744 (load_st v f 0 1 inb_S2x2x1x512_S1x1x1x512_0_1_0_0))
    (Prod.ext (congrArg k0_pay745 (load_st v f 0 0 inb_S2x2x1x512_S1x1x1x512_0_0_0_0)) (Prod.ext rfl
      (Prod.ext (congrArg k0_pay747 (load_st v f 1 1 inb_S2x2x1x512_S1x1x1x512_1_1_0_0))
        (congrArg k0_pay748 (load_st v f 1 0 inb_S2x2x1x512_S1x1x1x512_1_0_0_0))))))

theorem read_st (v : View sig .tc .vmem S2x2x1x512 .f32) (f : v.ty.Contents (Elt F))
    (w00 w01 w10 w11 : S1x1x1x512.Idx → Elt F .f32) (L : List (View.Piece (Elt F) S2x2x1x512 .f32))
    (i00 : ∀ a, (![0, 0, 0, 0] : Fin 4 → ℕ) a + S1x1x1x512.size a ≤ S2x2x1x512.size a)
    (i01 : ∀ a, (![0, 1, 0, 0] : Fin 4 → ℕ) a + S1x1x1x512.size a ≤ S2x2x1x512.size a)
    (i10 : ∀ a, (![1, 0, 0, 0] : Fin 4 → ℕ) a + S1x1x1x512.size a ≤ S2x2x1x512.size a)
    (i11 : ∀ a, (![1, 1, 0, 0] : Fin 4 → ℕ) a + S1x1x1x512.size a ≤ S2x2x1x512.size a) :
    v.read (Elt F) (v.writes (Elt F) f
        (⟨Rect.unit (s := S2x2x1x512) ![1, 1, 0, 0] S1x1x1x512.size i11, w11⟩
          :: ⟨Rect.unit (s := S2x2x1x512) ![1, 0, 0, 0] S1x1x1x512.size i10, w10⟩
          :: ⟨Rect.unit (s := S2x2x1x512) ![0, 1, 0, 0] S1x1x1x512.size i01, w01⟩
          :: ⟨Rect.unit (s := S2x2x1x512) ![0, 0, 0, 0] S1x1x1x512.size i00, w00⟩ :: L)) = stMk w00 w01 w10 w11 := by
  funext y
  obtain ⟨y0, y1, y2, y3, rfl⟩ : ∃ (a : Fin 2) (b : Fin 2) (c : Fin 1) (d : Fin 512), y = ix4 a b c d :=
    ⟨y 0, y 1, y 2, y 3, eq_ix4 y⟩
  obtain rfl : y2 = 0 := by omega
  by_cases h0 : y0 = 1
  · subst h0
    by_cases h1 : y1 = 1
    · subst h1
      rw [View.read_writes_cons_unit_of_mem (s := S2x2x1x512) v f i11 _ _ _ (ix4 (0 : Fin 1) (0 : Fin 1) (0 : Fin 1) y3) rfl fun a => by
        match a with
        | ⟨0, _⟩ => rfl
        | ⟨1, _⟩ => rfl
        | ⟨2, _⟩ => rfl
        | ⟨3, _⟩ => show y3.val = 0 + y3.val; omega]
      rfl
    · obtain rfl : y1 = 0 := by omega
      rw [View.read_writes_cons_unit_of_not_mem (s := S2x2x1x512) v f i11 _ _ _ rfl (1 : Fin 4) (.inl (by show 0 < 1; omega)),
        View.read_writes_cons_unit_of_mem (s := S2x2x1x512) v f i10 _ _ _ (ix4 (0 : Fin 1) (0 : Fin 1) (0 : Fin 1) y3) rfl fun a => by
        match a with
        | ⟨0, _⟩ => rfl
        | ⟨1, _⟩ => rfl
        | ⟨2, _⟩ => rfl
        | ⟨3, _⟩ => show y3.val = 0 + y3.val; omega]
      rfl
  · obtain rfl : y0 = 0 := by omega
    rw [View.read_writes_cons_unit_of_not_mem (s := S2x2x1x512) v f i11 _ _ _ rfl (0 : Fin 4) (.inl (by show 0 < 1; omega)),
      View.read_writes_cons_unit_of_not_mem (s := S2x2x1x512) v f i10 _ _ _ rfl (0 : Fin 4) (.inl (by show 0 < 1; omega))]
    by_cases h1 : y1 = 1
    · subst h1
      rw [View.read_writes_cons_unit_of_mem (s := S2x2x1x512) v f i01 _ _ _ (ix4 (0 : Fin 1) (0 : Fin 1) (0 : Fin 1) y3) rfl fun a => by
        match a with
        | ⟨0, _⟩ => rfl
        | ⟨1, _⟩ => rfl
        | ⟨2, _⟩ => rfl
        | ⟨3, _⟩ => show y3.val = 0 + y3.val; omega]
      rfl
    · obtain rfl : y1 = 0 := by omega
      rw [View.read_writes_cons_unit_of_not_mem (s := S2x2x1x512) v f i01 _ _ _ rfl (1 : Fin 4) (.inl (by show 0 < 1; omega)),
        View.read_writes_cons_unit_of_mem (s := S2x2x1x512) v f i00 _ _ _ (ix4 (0 : Fin 1) (0 : Fin 1) (0 : Fin 1) y3) rfl fun a => by
        match a with
        | ⟨0, _⟩ => rfl
        | ⟨1, _⟩ => rfl
        | ⟨2, _⟩ => rfl
        | ⟨3, _⟩ => show y3.val = 0 + y3.val; omega]
      rfl

/-- The numerators' buffer with its second slot cleared. -/
def pZero (p : S2x2x2048x512.Idx → Elt F .bf16) : S2x2x2048x512.Idx → Elt F .bf16 := fun y =>
  if (y 0).val = 1 then k0_pay741 (ix4 0 0 (y 2) (y 3)) else p y

theorem read_pZero (v : View sig .tc .vmem S2x2x2048x512 .bf16) (f : v.ty.Contents (Elt F))
    (inb1 : ∀ a, (![1, 1, 0, 0] : Fin 4 → ℕ) a + S1x1x2048x512.size a ≤ S2x2x2048x512.size a)
    (inb0 : ∀ a, (![1, 0, 0, 0] : Fin 4 → ℕ) a + S1x1x2048x512.size a ≤ S2x2x2048x512.size a) :
    v.read (Elt F) (v.writes (Elt F) f
        [⟨Rect.unit (s := S2x2x2048x512) ![1, 1, 0, 0] S1x1x2048x512.size inb1, k0_pay741⟩,
         ⟨Rect.unit (s := S2x2x2048x512) ![1, 0, 0, 0] S1x1x2048x512.size inb0, k0_pay741⟩])
      = pZero (v.read (Elt F) f) := by
  funext y
  obtain ⟨y0, y1, y2, y3, rfl⟩ : ∃ (a : Fin 2) (b : Fin 2) (c : Fin 2048) (d : Fin 512), y = ix4 a b c d :=
    ⟨y 0, y 1, y 2, y 3, eq_ix4 y⟩
  unfold pZero
  by_cases h0 : y0 = 1
  · subst h0
    refine Eq.trans ?_ (if_pos rfl).symm
    by_cases h1 : y1 = 1
    · subst h1
      rw [View.read_writes_cons_unit_of_mem (s := S2x2x2048x512) v f inb1 _ _ _ (ix4 (0 : Fin 1) (0 : Fin 1) y2 y3) rfl fun a => by
        match a with
        | ⟨0, _⟩ => rfl
        | ⟨1, _⟩ => rfl
        | ⟨2, _⟩ => show y2.val = 0 + y2.val; omega
        | ⟨3, _⟩ => show y3.val = 0 + y3.val; omega]
      rfl
    · obtain rfl : y1 = 0 := by omega
      rw [View.read_writes_cons_unit_of_not_mem (s := S2x2x2048x512) v f inb1 _ _ _ rfl (1 : Fin 4) (.inl (by show 0 < 1; omega)),
        View.read_writes_cons_unit_of_mem (s := S2x2x2048x512) v f inb0 _ _ _ (ix4 (0 : Fin 1) (0 : Fin 1) y2 y3) rfl fun a => by
        match a with
        | ⟨0, _⟩ => rfl
        | ⟨1, _⟩ => rfl
        | ⟨2, _⟩ => show y2.val = 0 + y2.val; omega
        | ⟨3, _⟩ => show y3.val = 0 + y3.val; omega]
      rfl
  · obtain rfl : y0 = 0 := by omega
    refine Eq.trans ?_ (if_neg (show ¬ (0 : ℕ) = 1 by omega)).symm
    rw [View.read_writes_cons_unit_of_not_mem (s := S2x2x2048x512) v f inb1 _ _ _ rfl (0 : Fin 4) (.inl (by show 0 < 1; omega)),
      View.read_writes_cons_unit_of_not_mem (s := S2x2x2048x512) v f inb0 _ _ _ rfl (0 : Fin 4) (.inl (by show 0 < 1; omega))]
    rfl

/-- The first score blocks, which the first query block starts from. -/
def blk0 (kk : S1x2x16384x128.Idx → Elt F .bf16) (qq : S1x2x32x128x512.Idx → Elt F .bf16) : Fin 2 → FVec F S2048x512 .f32 :=
  fun hd => scoreBlk kk qq hd 0 0

/-- A row of ones. -/
def ones : FVec F S1x512 .f32 := broadcast S1x512 (Scalar.ofBits .f32 0x3F800000#32)

/-- What the loop starts from, at the first query block and at the others. -/
def startAt (kk : S1x2x16384x128.Idx → Elt F .bf16) (qq : S1x2x32x128x512.Idx → Elt F .bf16) (i : grid0.Coords)
    (s : S2x2x2048x512.Idx → Elt F .f32) (p : S2x2x2048x512.Idx → Elt F .bf16) (a : S2x80x512.Idx → Elt F .f32)
    (st : S2x2x1x512.Idx → Elt F .f32) (o : S1x512x128.Idx → Elt F .bf16) : St F :=
  if qb i = 0 then
    ⟨(k0_pay743, ones, mxOf (blk0 kk qq 0), k0_pay743, ones, mxOf (blk0 kk qq 1)), sNext 0 (blk0 kk qq) s, pZero p,
      fun y => k0_pay742 (ix3 0 (y 1) (y 2)), o⟩
  else ⟨carryOf st, s, p, a, o⟩

variable (c : Dev nD) (i : grid0.Coords)
  (arg3 : Memref sig .tc .vmem S1x2x32x128x512 .bf16) (harg3 : arg3.IsWhole)
  (arg4 : Memref sig .tc .vmem S1x2x16384x128 .bf16) (harg4 : arg4.IsWhole)
  (arg5 : Memref sig .tc .vmem S1x2x8x80x2048 .bf16) (harg5 : arg5.IsWhole)
  (arg6 : Memref sig .tc .vmem S1x512x128 .bf16) (harg6 : arg6.IsWhole)
  (arg7 : Memref sig .tc .vmem S2x2x2048x512 .f32) (harg7 : arg7.IsWhole)
  (arg8 : Memref sig .tc .vmem S2x2x2048x512 .bf16) (harg8 : arg8.IsWhole)
  (arg9 : Memref sig .tc .vmem S2x80x512 .f32) (harg9 : arg9.IsWhole)
  (arg10 : Memref sig .tc .vmem S2x2x1x512 .f32) (harg10 : arg10.IsWhole)

/-- What the body leaves. -/
abbrev bodyEnd (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) : sProp 𝕄 :=
  iprop(∃ g6 g7 g8 g9 g10, own c arg3 f3 ∗ own c arg4 f4 ∗ own c arg5 f5 ∗ own c arg6 g6 ∗ own c arg7 g7 ∗ own c arg8 g8 ∗ own c arg9 g9 ∗ own c arg10 g10 ∗
    ⌜∃ acc : Carry F,
      (⟨acc, arg7.view.read (Elt F) g7, arg8.view.read (Elt F) g8, arg9.view.read (Elt F) g9, arg6.view.read (Elt F) g6⟩ : St F)
        = runTo (arg4.view.read (Elt F) f4) (arg3.view.read (Elt F) f3) (arg5.view.read (Elt F) f5) i (k0_t1_loop i).trips
            (startAt (arg4.view.read (Elt F) f4) (arg3.view.read (Elt F) f3) i (arg7.view.read (Elt F) f7)
              (arg8.view.read (Elt F) f8) (arg9.view.read (Elt F) f9) (arg10.view.read (Elt F) f10) (arg6.view.read (Elt F) f6))
      ∧ carryOf (arg10.view.read (Elt F) g10) = hand acc⌝)

set_option maxHeartbeats 1000000 in
theorem bodyNext (h1 : ¬ k0_cond1 i = 1#1) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) :
    iprop(own c arg3 f3 ∗ own c arg4 f4 ∗ own c arg5 f5 ∗ own c arg6 f6 ∗ own c arg7 f7 ∗ own c arg8 f8 ∗ own c arg9 f9 ∗ own c arg10 f10)
      ⊢ wp frame (wpE (defs₀ (F := F)) 𝒱₀ (c : Thread nD τ) none) Set.univ
          (cc0_mla_flash (F := F) i arg3 harg3 arg4 harg4 arg5 harg5 arg6 harg6 arg7 harg7 arg8 harg8 arg9 harg9 arg10 harg10)
          (fun _ => bodyEnd c i arg3 arg4 arg5 arg6 arg7 arg8 arg9 arg10 f3 f4 f5 f6 f7 f8 f9 f10) := by
  iintro ⟨H3, H4, H5, H6, H7, H8, H9, H10⟩
  sl_unfold [cc0_mla_flash]
  sl_exec_parts
  sl_step
  rename_i acc
  have hL := hL7
  iexists _, _, _, _, _
  iframe H3 H4 H5 H6 H7 H8 H9 H10
  ipureintro
  refine ⟨acc, ?_, ?_⟩
  · refine hL.trans ?_
    have e : qb i ≠ 0 := fun h => h1 ((cond1_iff i).2 h)
    unfold startAt
    rw [if_neg e]
    rw [← carry_loads (F := F) arg10.view f10]
  · refine (congrArg carryOf (read_st (F := F) arg10.view _ (sc acc.2.2.1) (sc acc.2.1) (sc acc.2.2.2.2.2) (sc acc.2.2.2.2.1) _
      inb_S2x2x1x512_S1x1x1x512_0_0_0_0 inb_S2x2x1x512_S1x1x1x512_0_1_0_0 inb_S2x2x1x512_S1x1x1x512_1_0_0_0
      inb_S2x2x1x512_S1x1x1x512_1_1_0_0)).trans ?_
    exact carryOf_stMk _ _ _ _

set_option maxHeartbeats 1000000 in
theorem bodyFirst (h1 : k0_cond1 i = 1#1) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) :
    iprop(own c arg3 f3 ∗ own c arg4 f4 ∗ own c arg5 f5 ∗ own c arg6 f6 ∗ own c arg7 f7 ∗ own c arg8 f8 ∗ own c arg9 f9 ∗ own c arg10 f10)
      ⊢ wp frame (wpE (defs₀ (F := F)) 𝒱₀ (c : Thread nD τ) none) Set.univ
          (cc0_mla_flash (F := F) i arg3 harg3 arg4 harg4 arg5 harg5 arg6 harg6 arg7 harg7 arg8 harg8 arg9 harg9 arg10 harg10)
          (fun _ => bodyEnd c i arg3 arg4 arg5 arg6 arg7 arg8 arg9 arg10 f3 f4 f5 f6 f7 f8 f9 f10) := by
  iintro ⟨H3, H4, H5, H6, H7, H8, H9, H10⟩
  sl_unfold [cc0_mla_flash]
  sl_exec_parts
  sl_step
  rename_i acc
  have hL := hL7
  iexists _, _, _, _, _
  iframe H3 H4 H5 H6 H7 H8 H9 H10
  ipureintro
  refine ⟨acc, ?_, ?_⟩
  · refine hL.trans ?_
    have e : qb i = 0 := (cond1_iff i).1 h1
    unfold startAt
    rw [if_pos e]
    have hb0 : k0_pay20 (F := F) (arg4.view.readAt (Elt F) (Rect.unit (s := S1x2x16384x128) ![0, 0, 0, 0] S1x1x2048x128.size
        inb_S1x2x16384x128_S1x1x2048x128_0_0_0_0).toLoadRect f4)
        (arg3.view.readAt (Elt F) (Rect.unit (s := S1x2x32x128x512) ![0, 0, 0, 0, 0] S1x1x1x128x512.size
          inb_S1x2x32x128x512_S1x1x1x128x512_0_0_0_0_0).toLoadRect f3)
        = blk0 (arg4.view.read (Elt F) f4) (arg3.view.read (Elt F) f3) 0 :=
      congr (congrArg (k0_pay20 (F := F)) (load_k arg4.view f4 0 0 rfl inb_S1x2x16384x128_S1x1x2048x128_0_0_0_0))
        (load_q arg3.view f3 0 0 rfl inb_S1x2x32x128x512_S1x1x1x128x512_0_0_0_0_0)
    have hb1 : k0_pay20 (F := F) (arg4.view.readAt (Elt F) (Rect.unit (s := S1x2x16384x128) ![0, 1, 0, 0] S1x1x2048x128.size
        inb_S1x2x16384x128_S1x1x2048x128_0_1_0_0).toLoadRect f4)
        (arg3.view.readAt (Elt F) (Rect.unit (s := S1x2x32x128x512) ![0, 1, 0, 0, 0] S1x1x1x128x512.size
          inb_S1x2x32x128x512_S1x1x1x128x512_0_1_0_0_0).toLoadRect f3)
        = blk0 (arg4.view.read (Elt F) f4) (arg3.view.read (Elt F) f3) 1 :=
      congr (congrArg (k0_pay20 (F := F)) (load_k arg4.view f4 1 0 rfl inb_S1x2x16384x128_S1x1x2048x128_0_1_0_0))
        (load_q arg3.view f3 1 0 rfl inb_S1x2x32x128x512_S1x1x1x128x512_0_1_0_0_0)
    have hs := read_s (F := F) arg7.view f7 0 (blk0 (arg4.view.read (Elt F) f4) (arg3.view.read (Elt F) f3))
      inb_S2x2x2048x512_S1x1x2048x512_0_1_0_0 inb_S2x2x2048x512_S1x1x2048x512_0_0_0_0
    have hp := read_pZero (F := F) arg8.view f8 inb_S2x2x2048x512_S1x1x2048x512_1_1_0_0 inb_S2x2x2048x512_S1x1x2048x512_1_0_0_0
    have ha := read_a (F := F) arg9.view arg9.view.junk inb_S2x80x512_S1x80x512_1_0_0 inb_S2x80x512_S1x80x512_0_0_0 k0_pay742 k0_pay742
    have ha' : arg9.view.read (Elt F) (arg9.view.writes (Elt F) arg9.view.junk bodyFirst.sl.H9_2) = fun y => k0_pay742 (ix3 0 (y 1) (y 2)) :=
      ha.trans (funext fun y => ite_self _)
    have hst := read_st (F := F) arg10.view arg10.view.junk (sc (mxOf (blk0 (arg4.view.read (Elt F) f4) (arg3.view.read (Elt F) f3) 0))) (sc ones)
      (sc (mxOf (blk0 (arg4.view.read (Elt F) f4) (arg3.view.read (Elt F) f3) 1))) (sc ones) []
      inb_S2x2x1x512_S1x1x1x512_0_0_0_0 inb_S2x2x1x512_S1x1x1x512_0_1_0_0 inb_S2x2x1x512_S1x1x1x512_1_0_0_0
      inb_S2x2x1x512_S1x1x1x512_1_1_0_0
    have hc := (congrArg carryOf hst).trans (carryOf_stMk _ _ _ _)
    refine congrArg _ (St.ext ?_ ?_ hp ha' rfl)
    · refine Eq.trans ?_ hc
      refine Eq.trans (b := carryOf (arg10.view.read (Elt F) (arg10.view.writes (Elt F) arg10.view.junk (bodyFirst.sl.H10_4 arg3 arg4 f3 f4)))) ?_ ?_
      · exact carry_loads (F := F) arg10.view _
      · rw [← hb0, ← hb1]
        rfl
    · rw [← hs, ← hb0, ← hb1]; rfl
  · refine (congrArg carryOf (read_st (F := F) arg10.view _ (sc acc.2.2.1) (sc acc.2.1) (sc acc.2.2.2.2.2) (sc acc.2.2.2.2.1) _
      inb_S2x2x1x512_S1x1x1x512_0_0_0_0 inb_S2x2x1x512_S1x1x1x512_0_1_0_0 inb_S2x2x1x512_S1x1x1x512_1_0_0_0
      inb_S2x2x1x512_S1x1x1x512_1_1_0_0)).trans ?_
    exact carryOf_stMk _ _ _ _

/-- The kernel's body at any grid point. -/
theorem bodyRun (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) :
    iprop(own c arg3 f3 ∗ own c arg4 f4 ∗ own c arg5 f5 ∗ own c arg6 f6 ∗ own c arg7 f7 ∗ own c arg8 f8 ∗ own c arg9 f9 ∗ own c arg10 f10)
      ⊢ wp frame (wpE (defs₀ (F := F)) 𝒱₀ (c : Thread nD τ) none) Set.univ
          (cc0_mla_flash (F := F) i arg3 harg3 arg4 harg4 arg5 harg5 arg6 harg6 arg7 harg7 arg8 harg8 arg9 harg9 arg10 harg10)
          (fun _ => bodyEnd c i arg3 arg4 arg5 arg6 arg7 arg8 arg9 arg10 f3 f4 f5 f6 f7 f8 f9 f10) := by
  by_cases h1 : k0_cond1 i = 1#1
  · exact bodyFirst c i arg3 harg3 arg4 harg4 arg5 harg5 arg6 harg6 arg7 harg7 arg8 harg8 arg9 harg9 arg10 harg10 h1 f3 f4 f5 f6 f7 f8 f9 f10
  · exact bodyNext c i arg3 harg3 arg4 harg4 arg5 harg5 arg6 harg6 arg7 harg7 arg8 harg8 arg9 harg9 arg10 harg10 h1 f3 f4 f5 f6 f7 f8 f9 f10

end Cert.Mla
end
-- ==== Proof.Launch.lean ====
module

public import proofs.«01_k».proof.Proof.BodyRun

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]
local notation "𝕄" => MT nD τ sig Unit (Elt F) ℕ (UU nD τ) ℕ

theorem qb_coords (t : Fin cfg0.N) : qb (grid0.coords t) = t.val % 33 := by
  have h := Pipeline.Grid.coords_val (G := grid0) t (2 : Fin 3) (S := 1) (B := 33) (by decide) rfl
  rw [Nat.div_one] at h
  exact h

variable (m : (ℓ : Loc nD τ sig) → Buf (Elt F) ℓ) (ρ : Dev nD → PrngReg)

/-- What holds of the buffers between grid points and of the blocks written: a statement about the carry, the scores,
    the numerators and the accumulators before a point, one about the block written at a point, and that the body
    takes the first from point to point and gives the second. -/
structure Sys (c : Dev nD) where
  J : ℕ → Carry F → (S2x2x2048x512.Idx → Elt F .f32) → (S2x2x2048x512.Idx → Elt F .bf16) → (S2x80x512.Idx → Elt F .f32) → Prop
  O : Fin cfg0.N → (S1x512x128.Idx → Elt F .bf16) → Prop
  step : ∀ (t : Fin cfg0.N) (s : S2x2x2048x512.Idx → Elt F .f32) (p : S2x2x2048x512.Idx → Elt F .bf16)
    (a : S2x80x512.Idx → Elt F .f32) (st : S2x2x1x512.Idx → Elt F .f32) (o : S1x512x128.Idx → Elt F .bf16) (y : St F),
    (t.val % 33 ≠ 0 → J t.val (carryOf st) s p a) →
    y = runTo (iblk m c 1 t) (iblk m c 0 t) (iblk m c 2 t) (grid0.coords t) (k0_t1_loop (grid0.coords t)).trips
      (startAt (iblk m c 1 t) (iblk m c 0 t) (grid0.coords t) s p a st o) →
    ((t.val + 1) % 33 ≠ 0 → J (t.val + 1) (hand y.acc) y.s y.p y.a) ∧ (t.val % 33 ≠ 0 → O t y.o)

/-- The system that says nothing. -/
def Sys.trivial (c : Dev nD) : Sys m c := ⟨fun _ _ _ _ _ => True, fun _ _ => True, fun _ _ _ _ _ _ _ _ _ => ⟨fun _ => True.intro, fun _ => True.intro⟩⟩

variable {m} in
/-- The scratch buffers before a point. -/
def between {c : Dev nD} (S : Sys m c) (t : ℕ) : sProp 𝕄 :=
  iprop((∃ g7 g8 g9 g10, own c (Memref.whole cc0_scratch0) g7 ∗ own c (Memref.whole cc0_scratch1) g8 ∗ own c (Memref.whole cc0_scratch2) g9
    ∗ own c (Memref.whole cc0_scratch3) g10
    ∗ ⌜t % 33 ≠ 0 → S.J t (carryOf ((Memref.whole cc0_scratch3 : Memref sig .tc .vmem S2x2x1x512 .f32).view.read (Elt F) g10))
        ((Memref.whole cc0_scratch0 : Memref sig .tc .vmem S2x2x2048x512 .f32).view.read (Elt F) g7)
        ((Memref.whole cc0_scratch1 : Memref sig .tc .vmem S2x2x2048x512 .bf16).view.read (Elt F) g8)
        ((Memref.whole cc0_scratch2 : Memref sig .tc .vmem S2x80x512 .f32).view.read (Elt F) g9)⌝) ∗ ∃ r, prngReg c r)

variable {m} in
/-- The proof data of the launch. -/
def rdat {c : Dev nD} (S : Sys m c) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => t.val % 33 ≠ 0 → S.O t X
  Φ t := between S t.val
  q _ := fullShare
  owed _ := 0

section
variable {m} {c : Dev nD} (S : Sys m c)

theorem finds0 (t : Fin cfg0.N) (Y) (h : (rdat S).Finds 0 t Y) : Y = iblk m c 0 t := by
  obtain ⟨d, hd⟩ := (rdat S).finds_in_eq_fetched 0 rfl (fun _ _ _ => rfl) (fun _ _ _ h => h) t Y h
  exact hd.trans (by unfold RDat.fetched RDat.blockOf iblk; rfl)

theorem finds1 (t : Fin cfg0.N) (Y) (h : (rdat S).Finds 1 t Y) : Y = iblk m c 1 t := by
  obtain ⟨d, hd⟩ := (rdat S).finds_in_eq_fetched 1 rfl (fun _ _ _ => rfl) (fun _ _ _ h => h) t Y h
  exact hd.trans (by unfold RDat.fetched RDat.blockOf iblk; rfl)

theorem finds2 (t : Fin cfg0.N) (Y) (h : (rdat S).Finds 2 t Y) : Y = iblk m c 2 t := by
  obtain ⟨d, hd⟩ := (rdat S).finds_in_eq_fetched 2 rfl (fun _ _ _ => rfl) (fun _ _ _ h => h) t Y h
  exact hd.trans (by unfold RDat.fetched RDat.blockOf iblk; rfl)

set_option maxHeartbeats 1000000 in
theorem body_ok : (rdat S).BodyObligation defs₀ 𝒱₀ () Set.univ := by
  intro t Y hY
  have h0 := finds0 S t _ (hY 0)
  have h1 := finds1 S t _ (hY 1)
  have h2 := finds2 S t _ (hY 2)
  rw [bigSep_W0, bigSep_W0]
  change iprop(between S t.val ∗ (rdat S).owesAt () t.castSucc ∗ _) ⊢ wp frame (wpE defs₀ 𝒱₀ c none) Set.univ (bodyAt0 t) _
  unfold between owns
  iintro ⟨⟨⟨%g7, %g8, %g9, %g10, H7, H8, H9, H10, %hJ⟩, Hp⟩, Ho, ⟨%f3, %e3, H3⟩, ⟨%f4, %e4, H4⟩, ⟨%f5, %e5, H5⟩, ⟨%f6, %e6, H6⟩⟩
  iapply (wp_wand_r frame (wpE (defs₀ (F := F)) 𝒱₀ (c : Thread nD τ) none) Set.univ)
  isplitl [H3 H4 H5 H6 H7 H8 H9 H10]
  · iapply (bodyRun c (grid0.coords t) _ _ _ _ _ _ _ _ _ _ _ _ _ _ _ _ f3 f4 f5 f6 g7 g8 g9 g10)
    iframe H3 H4 H5 H6 H7 H8 H9 H10
  · iintro %_ ⟨%g6, %g7', %g8', %g9', %g10', H3, H4, H5, H6, H7, H8, H9, H10, %hE⟩
    obtain ⟨acc, hE, hc⟩ := hE
    rw [show View.read (Elt F) (win0_0.stage (cfg0.slots t 0)).view f3 = iblk m c 0 t from e3.trans h0,
      show View.read (Elt F) (win0_1.stage (cfg0.slots t 1)).view f4 = iblk m c 1 t from e4.trans h1,
      show View.read (Elt F) (win0_2.stage (cfg0.slots t 2)).view f5 = iblk m c 2 t from e5.trans h2] at hE
    obtain ⟨s1, s2⟩ := S.step t _ _ _ _ _ _ hJ hE
    isplitl [H7 H8 H9 H10 Hp]
    · rw [show (rdat S).Φ t.succ = between S (t.val + 1) from rfl]
      unfold between
      iframe Hp
      iexists g7', g8', g9', g10'
      iframe H7 H8 H9 H10
      ipureintro
      rw [hc]
      exact s1
    · isplitl [Ho]
      · iexact Ho
      · isplitl [H3]
        · iexists (Y 0)
          isplitr
          · ipureintro; exact rfl
          · iexists f3; iframe H3; ipureintro; exact e3
        · isplitl [H4]
          · iexists (Y 1)
            isplitr
            · ipureintro; exact rfl
            · iexists f4; iframe H4; ipureintro; exact e4
          · isplitl [H5]
            · iexists (Y 2)
              isplitr
              · ipureintro; exact rfl
              · iexists f5; iframe H5; ipureintro; exact e5
            · iexists _
              isplitr
              · ipureintro; exact s2
              · iexists g6; iframe H6; ipureintro; exact rfl

theorem own0 (g : Buf (Elt F) ((c : Thread nD τ).loc cc0_scratch0)) :
    own c (Memref.whole cc0_scratch0) g = iprop(((c : Thread nD τ).loc cc0_scratch0) ↦{fullShare} g) := by
  unfold own; exact congrArg (fun s => iprop(((c : Thread nD τ).loc cc0_scratch0) ↦[s]{fullShare} g)) (View.set_whole cc0_scratch0)
theorem own1 (g : Buf (Elt F) ((c : Thread nD τ).loc cc0_scratch1)) :
    own c (Memref.whole cc0_scratch1) g = iprop(((c : Thread nD τ).loc cc0_scratch1) ↦{fullShare} g) := by
  unfold own; exact congrArg (fun s => iprop(((c : Thread nD τ).loc cc0_scratch1) ↦[s]{fullShare} g)) (View.set_whole cc0_scratch1)
theorem own2 (g : Buf (Elt F) ((c : Thread nD τ).loc cc0_scratch2)) :
    own c (Memref.whole cc0_scratch2) g = iprop(((c : Thread nD τ).loc cc0_scratch2) ↦{fullShare} g) := by
  unfold own; exact congrArg (fun s => iprop(((c : Thread nD τ).loc cc0_scratch2) ↦[s]{fullShare} g)) (View.set_whole cc0_scratch2)
theorem own3 (g : Buf (Elt F) ((c : Thread nD τ).loc cc0_scratch3)) :
    own c (Memref.whole cc0_scratch3) g = iprop(((c : Thread nD τ).loc cc0_scratch3) ↦{fullShare} g) := by
  unfold own; exact congrArg (fun s => iprop(((c : Thread nD τ).loc cc0_scratch3) ↦[s]{fullShare} g)) (View.set_whole cc0_scratch3)

theorem between_in : Pipeline.ΦA spec0 c ⊢ between S 0 := by
  unfold Pipeline.ΦA between
  rw [scopedRest0_eq]
  simp only [own0, own1, own2, own3]
  iintro ⟨⟨⟨%g7, H7⟩, ⟨%g8, H8⟩, ⟨%g9, H9⟩, ⟨%g10, H10⟩⟩, Hp⟩
  iframe Hp
  iexists g7, g8, g9, g10
  iframe H7 H8 H9 H10
  ipureintro
  exact fun h => absurd rfl h

theorem between_out (n : ℕ) : between S n ⊢ Pipeline.ΦA spec0 c := by
  unfold Pipeline.ΦA between
  rw [scopedRest0_eq]
  simp only [own0, own1, own2, own3]
  iintro ⟨⟨%g7, %g8, %g9, %g10, H7, H8, H9, H10, %h⟩, Hp⟩
  iframe Hp
  isplitl [H7]; · iexists g7; iexact H7
  isplitl [H8]; · iexists g8; iexact H8
  isplitl [H9]; · iexists g9; iexact H9
  iexists g10; iexact H10

end

/-- The run of the kernel: the output array at blocks of which the system speaks, every other array as it was. -/
theorem run (S : (c : Dev nD) → Sys m c) :
    θ_run (defs (F := F)) (onTc (τ := τ) (main (F := F))) ⟨m, fun _ => 0, ρ⟩
      (fun r => RDat.FramePost cfg0 (fun c => rdat (S c)) (V m) r ∧ r.2.sem = fun _ => 0) :=
  RDat.θ_run_frame_track cfgs 0 launch0 defs₀ 𝒱₀ (fun c => rdat (S c)) m ρ main (fun c => body_ok (S c))
    (fun c w => by unfold RDat.share; split <;> rfl) (fun _ _ => rfl) (V m) (hmain m 𝒱₀) (fun _ _ => rfl)
    (fun c => between_in (S c)) (fun c => between_out (S c) _) _ (fun _ h => h)

variable {m} in
/-- The arguments after the run. -/
theorem args_kept {S : (c : Dev nD) → Sys m c} {r : PUnit × MemSt nD τ sig (Elt F)}
    (h : RDat.FramePost cfg0 (fun c => rdat (S c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- Every argument as it was and every counter at zero. -/
theorem frame_run :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨args_kept h.1, h.2⟩) (run m ρ fun c => Sys.trivial m c)

end Cert.Mla
end
-- ==== Proof.Entries.lean ====
module

public import proofs.«01_k».proof.Proof.BodyRun
public import Idealize.ShloMosaic.Lib.Pointwise

@[expose] public section

set_option maxRecDepth 16384

noncomputable section

namespace Cert.Mla

open Cert.KernelIdeal Cert.KernelIdeal.Gen
open Idealize.ShloMosaic

/-! ## The payloads at one entry, over the extended reals -/

theorem score_entry (kk : S1x2x16384x128.Idx → EReal) (qq : S1x2x32x128x512.Idx → EReal) (hd : Fin 2) (c : Fin 8) (q : Fin 32)
    (r : Fin 2048) (j : Fin 512) :
    scoreBlk (F := Ideal) kk qq hd c q (ix2 r j)
      = ∑ d : Fin 128, kk (ix4 0 hd ⟨2048 * c.val + r.val, by omega⟩ d) * qq (ix5 0 hd q d j) := by
  unfold scoreBlk
  pointwise [k0_pay20]

theorem mNew_entry (m mx : FVec Ideal S1x512 .f32) (y : S1x512.Idx) : mNew m mx y = max (m y) (mx y) := by
  pointwise [mNew, k0_pay25]

theorem alphaNew_entry (m mx : FVec Ideal S1x512 .f32) (y : S1x512.Idx) :
    alphaNew m mx y = Ideal.exp2 (m y - mNew m mx y) := by
  pointwise [alphaNew, mNew, k0_pay26, k0_pay25]
  rfl

theorem p_entry (M : FVec Ideal S1x512 .f32) (x : Vec Ideal S1x1x32x512 .f32) (r : Fin 32) (j : Fin 512) :
    k0_pay27 (F := Ideal) M x (ix4 0 0 r j) = Ideal.exp2 (x (ix4 0 0 r j) - M (ix2 0 j)) := by
  pointwise [k0_pay27]
  rfl

theorem a_entry (al : FVec Ideal S1x512 .f32) (v : Vec Ideal S1x1x1x80x2048 .bf16) (a : Vec Ideal S1x80x512 .f32)
    (p : Vec Ideal S1x1x2048x512 .bf16) (d : Fin 80) (j : Fin 512) :
    k0_pay104 (F := Ideal) al v a p (ix3 0 d j)
      = al (ix2 0 j) * a (ix3 0 d j) + ∑ r : Fin 2048, v (ix5 0 0 0 d r) * p (ix4 0 0 r j) := by
  pointwise [k0_pay104]

theorem o_entry (a b : Vec Ideal S1x80x512 .f32) (j : Fin 512) (l : Fin 128) :
    k0_pay751 (F := Ideal) a b (ix3 0 j l)
      = if l.val < 64 then Ideal.div (a (ix3 0 ⟨l.val % 64, by omega⟩ j)) (a (ix3 0 64 j))
        else Ideal.div (b (ix3 0 ⟨l.val % 64, by omega⟩ j)) (b (ix3 0 64 j)) := by
  pointwise [k0_pay751]
  by_cases h : l.val < 64
  · have e : l.val % 64 = l.val := Nat.mod_eq_of_lt h
    simp only [dif_pos h, if_pos h, e]
  · have e : l.val % 64 = l.val - 64 := by omega
    simp only [dif_neg h, if_neg h, e]

theorem fold_max_finite {n : ℕ} (f : Fin (n + 1) → EReal) (h : ∀ i, ∃ r : ℝ, f i = (r : EReal)) :
    ∃ r : ℝ, Finset.univ.fold max ⊥ f = (r : EReal) := by
  obtain ⟨i, -, e⟩ := Finset.exists_mem_eq_sup Finset.univ Finset.univ_nonempty f
  obtain ⟨r, hr⟩ := h i
  exact ⟨r, (show Finset.univ.fold max ⊥ f = Finset.univ.sup f from rfl).trans (e.trans hr)⟩

theorem max_finite {a b : EReal} (ha : ∃ r : ℝ, a = (r : EReal)) (hb : ∃ r : ℝ, b = (r : EReal)) : ∃ r : ℝ, max a b = (r : EReal) := by
  obtain ⟨x, rfl⟩ := ha
  obtain ⟨y, rfl⟩ := hb
  rcases max_choice (x : EReal) (y : EReal) with h | h
  · exact ⟨x, h⟩
  · exact ⟨y, h⟩

theorem neg_inf : Ideal.ofBits FTy.f32 0xFF800000#32 = (⊥ : EReal) := by
  simp [Ideal.ofBits, Ideal.ieee]

theorem stripMax_finite (st : FVec Ideal S2048x512 .f32) (h : ∀ y, ∃ r : ℝ, st y = (r : EReal)) :
    (n : ℕ) → (hn : n < 64) → ∀ y, ∃ r : ℝ, stripMax st n hn y = (r : EReal)
  | 0, _, y => h _
  | n + 1, hn, y => max_finite (stripMax_finite st h n (Nat.lt_of_succ_lt hn) y) (h _)

/-- The maximum of finite rows is finite. -/
theorem mxOf_finite (st : FVec Ideal S2048x512 .f32) (h : ∀ y, ∃ r : ℝ, st y = (r : EReal)) (j : Fin 512) :
    ∃ r : ℝ, mxOf st (ix2 0 j) = (r : EReal) := by
  unfold mxOf
  pointwise []
  rw [neg_inf]
  exact fold_max_finite _ fun x => stripMax_finite st h 63 (by omega) _

theorem start_entry (y : S1x512.Idx) : (k0_pay743 (F := Ideal)) y = (⊥ : EReal) := by
  pointwise [k0_pay743]
  exact neg_inf

end Cert.Mla
end
-- ==== Proof.Online.lean ====
module

public import proofs.«01_k».proof.Proof.Entries

@[expose] public section

set_option maxRecDepth 16384

noncomputable section

namespace Cert.Mla

open Cert.KernelIdeal Cert.KernelIdeal.Gen
open Idealize.ShloMosaic

/-! ## The running softmax over the extended reals -/

theorem mul_sum_real {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem exp2_sub (x a b : ℝ) :
    Ideal.exp2 ((a : EReal) - b) * Ideal.exp2 ((x : EReal) - a) = Ideal.exp2 ((x : EReal) - b) := by
  rw [← EReal.coe_sub, ← EReal.coe_sub, ← EReal.coe_sub, Ideal.exp2_coe, Ideal.exp2_coe, Ideal.exp2_coe, ← EReal.coe_mul]
  refine congrArg _ ((Real.rpow_add (by norm_num) _ _).symm.trans (congrArg (Real.rpow 2) ?_))
  ring

/-- A chunk by its number. -/
def c8 (c : ℕ) : Fin 8 := ⟨c % 8, Nat.mod_lt _ (by omega)⟩

theorem c8_of {c : ℕ} (h : c < 8) : c8 c = ⟨c, h⟩ := Fin.ext (Nat.mod_eq_of_lt h)

variable (kk : S1x2x16384x128.Idx → EReal) (qq : S1x2x32x128x512.Idx → EReal) (vv : S1x2x8x80x2048.Idx → EReal)

/-- The scores of a chunk. -/
def scr (hd : Fin 2) (q : Fin 32) (c : ℕ) : FVec Ideal S2048x512 .f32 := scoreBlk (F := Ideal) kk qq hd (c8 c) q

/-- The running maximum before chunk `k`. -/
def Mx (hd : Fin 2) (q : Fin 32) : ℕ → FVec Ideal S1x512 .f32
  | 0 => k0_pay743
  | k + 1 => mNew (Mx hd q k) (mxOf (scr kk qq hd q k))

/-- One weight. -/
def wt (hd : Fin 2) (q : Fin 32) (k c : ℕ) (r : Fin 2048) (j : Fin 512) : EReal :=
  Ideal.exp2 (scr kk qq hd q c (ix2 r j) - Mx kk qq hd q k (ix2 0 j))

/-- The numerators over the first `n` chunks, at the maximum before chunk `k`. -/
def num (hd : Fin 2) (q : Fin 32) (k n : ℕ) (d : Fin 80) (j : Fin 512) : EReal :=
  ∑ c ∈ Finset.range n, ∑ r : Fin 2048, vv (ix5 0 hd (c8 c) d r) * wt kk qq hd q k c r j

/-- Every score is finite. -/
def Fin8 : Prop := ∀ hd c q y, ∃ r : ℝ, scoreBlk (F := Ideal) kk qq hd c q y = (r : EReal)

variable {kk qq}

theorem Mx_finite (h : Fin8 kk qq) (hd : Fin 2) (q : Fin 32) (j : Fin 512) :
    (k : ℕ) → ∃ r : ℝ, Mx kk qq hd q (k + 1) (ix2 0 j) = (r : EReal)
  | 0 => by
    obtain ⟨r, hr⟩ := mxOf_finite (scr kk qq hd q 0) (h hd _ q) j
    exact ⟨r, by rw [Mx, mNew_entry, hr, Mx, start_entry]; exact max_eq_right bot_le⟩
  | k + 1 => by
    rw [Mx, mNew_entry]
    exact max_finite (Mx_finite h hd q j k) (mxOf_finite (scr kk qq hd q (k + 1)) (h hd _ q) j)

/-- The factor of a trip takes the numerators from one maximum to the next. -/
theorem alpha_num (h : Fin8 kk qq) (hd : Fin 2) (q : Fin 32) (k n : ℕ) (d : Fin 80) (j : Fin 512) :
    alphaNew (Mx kk qq hd q (k + 1)) (mxOf (scr kk qq hd q (k + 1))) (ix2 0 j) * num kk qq vv hd q (k + 1) n d j
      = num kk qq vv hd q (k + 2) n d j := by
  rw [alphaNew_entry]
  show Ideal.exp2 (Mx kk qq hd q (k + 1) (ix2 0 j) - Mx kk qq hd q (k + 2) (ix2 0 j)) * _ = _
  obtain ⟨a, ha⟩ := Mx_finite h hd q j k
  obtain ⟨b, hb⟩ := Mx_finite h hd q j (k + 1)
  have hpos : (0 : ℝ) ≤ Real.rpow 2 (a - b) := Real.rpow_nonneg (by norm_num) _
  have e : Ideal.exp2 ((a : EReal) - b) = ((Real.rpow 2 (a - b) : ℝ) : EReal) := by
    rw [← EReal.coe_sub, Ideal.exp2_coe]
  unfold num wt
  rw [ha, hb, e, mul_sum_real _ hpos]
  refine Finset.sum_congr rfl fun c _ => ?_
  rw [mul_sum_real _ hpos]
  refine Finset.sum_congr rfl fun r _ => ?_
  obtain ⟨x, hx⟩ := h hd (c8 c) q (ix2 r j)
  have hx' : scr kk qq hd q c (ix2 r j) = (x : EReal) := hx
  rw [hx', ← e, mul_left_comm, exp2_sub]

/-- At the first chunk the factor is zero. -/
theorem alpha_first (h : Fin8 kk qq) (hd : Fin 2) (q : Fin 32) (j : Fin 512) (z : EReal) :
    alphaNew (Mx kk qq hd q 0) (mxOf (scr kk qq hd q 0)) (ix2 0 j) * z = 0 := by
  rw [alphaNew_entry]
  show Ideal.exp2 (Mx kk qq hd q 0 (ix2 0 j) - Mx kk qq hd q 1 (ix2 0 j)) * _ = _
  obtain ⟨b, hb⟩ := Mx_finite h hd q j 0
  have h0 : Mx kk qq hd q 0 (ix2 0 j) = (⊥ : EReal) := start_entry _
  rw [hb, h0, EReal.bot_sub, Ideal.exp2_bot, zero_mul]

variable (kk qq)

/-- The accumulators and the numerators hold chunks up to `k`, the last still to be added. -/
structure Old (q : Fin 32) (k : ℕ) (al : Fin 2 → FVec Ideal S1x512 .f32) (p : S2x2x2048x512.Idx → EReal)
    (a : S2x80x512.Idx → EReal) : Prop where
  al : ∀ hd d j, al hd (ix2 0 j) * a (ix3 hd d j) = num kk qq vv hd q (k + 1) k d j
  p : ∀ hd r j, p (ix4 (curOf k) hd r j) = wt kk qq hd q (k + 1) k r j

/-- The scores of chunk `k` and their maxima are at hand. -/
structure New (q : Fin 32) (k : ℕ) (acc : Carry Ideal) (s : S2x2x2048x512.Idx → EReal) : Prop where
  s : ∀ hd r j, s (ix4 (curOf k) hd r j) = scr kk qq hd q k (ix2 r j)
  mx0 : acc.2.2.1 = mxOf (scr kk qq 0 q k)
  mx1 : acc.2.2.2.2.2 = mxOf (scr kk qq 1 q k)

/-- The running maxima before chunk `k`. -/
structure Mxs (q : Fin 32) (k : ℕ) (acc : Carry Ideal) : Prop where
  m0 : acc.1 = Mx kk qq 0 q k
  m1 : acc.2.2.2.1 = Mx kk qq 1 q k

/-- The accumulators once the last chunk is added. -/
theorem a_after {q : Fin 32} {k : ℕ} {al : Fin 2 → FVec Ideal S1x512 .f32} {p : S2x2x2048x512.Idx → EReal}
    {a : S2x80x512.Idx → EReal} (h : Old kk qq vv q k al p a) (nxt : Fin 2) (hn : nxt = curOf k) (c : Fin 8) (hc : c = c8 k) :
    aNext (F := Ideal) nxt al vv c p a = fun y => num kk qq vv (y 0) q (k + 1) (k + 1) (y 1) (y 2) := by
  subst hn hc
  funext y
  obtain ⟨hd, d, j, rfl⟩ : ∃ (a : Fin 2) (b : Fin 80) (c : Fin 512), y = ix3 a b c := ⟨y 0, y 1, y 2, eq_ix3 y⟩
  refine (a_entry (al hd) _ _ _ d j).trans ?_
  show al hd (ix2 0 j) * a (ix3 hd d j) + ∑ r : Fin 2048, vv (ix5 0 hd (c8 k) d r) * p (ix4 (curOf k) hd r j) = num kk qq vv hd q (k + 1) (k + 1) d j
  rw [h.al]
  unfold num
  rw [Finset.sum_range_succ]
  exact congrArg _ (Finset.sum_congr rfl fun r _ => by rw [h.p])

variable {kk qq} {vv}
variable {i : grid0.Coords} {q : Fin 32}

theorem mOf_eq {k : ℕ} {acc : Carry Ideal} {s : S2x2x2048x512.Idx → EReal} (hN : New kk qq q k acc s) (hM : Mxs kk qq q k acc) :
    ∀ hd, mOf acc hd = Mx kk qq hd q (k + 1) := fun hd => by
  match hd with
  | 0 => exact congr (congrArg mNew hM.m0) hN.mx0
  | 1 => exact congr (congrArg mNew hM.m1) hN.mx1

theorem p_after {k : ℕ} {acc : Carry Ideal} {s : S2x2x2048x512.Idx → EReal} (hN : New kk qq q k acc s) (hM : Mxs kk qq q k acc)
    (p : S2x2x2048x512.Idx → EReal) (hd : Fin 2) (r : Fin 2048) (j : Fin 512) :
    pNext (F := Ideal) (curOf k) (mOf acc) s p (ix4 (curOf k) hd r j) = wt kk qq hd q (k + 1) k r j := by
  refine (if_pos rfl).trans ((p_entry _ _ _ _).trans ?_)
  have hr : (⟨32 * (r.val / 32) + r.val % 32, by omega⟩ : Fin 2048) = r := Fin.ext (by show 32 * (r.val / 32) + r.val % 32 = r.val; omega)
  show Ideal.exp2 (s (ix4 (curOf k) hd ⟨32 * (r.val / 32) + r.val % 32, _⟩ j) - mOf acc hd (ix2 0 j)) = _
  rw [hr, hN.s, mOf_eq hN hM]
  rfl

theorem alOf_after {k : ℕ} {acc : Carry Ideal} {s : S2x2x2048x512.Idx → EReal} (hN : New kk qq q k acc s) (hM : Mxs kk qq q k acc)
    (blk : Fin 2 → FVec Ideal S2048x512 .f32) (hd : Fin 2) :
    alOf (carryNext blk acc) hd = alphaNew (Mx kk qq hd q k) (mxOf (scr kk qq hd q k)) := by
  match hd with
  | 0 => exact congr (congrArg alphaNew hM.m0) hN.mx0
  | 1 => exact congr (congrArg alphaNew hM.m1) hN.mx1

theorem Mxs_after {k : ℕ} {acc : Carry Ideal} {s : S2x2x2048x512.Idx → EReal} (hN : New kk qq q k acc s) (hM : Mxs kk qq q k acc)
    (blk : Fin 2 → FVec Ideal S2048x512 .f32) : Mxs kk qq q (k + 1) (carryNext blk acc) :=
  ⟨mOf_eq hN hM 0, mOf_eq hN hM 1⟩

/-- The first trip of a block. -/
theorem first_trip (hf : Fin8 kk qq) (h0 : 0 < (k0_t1_loop i).trips) (x : St Ideal) (hN : New kk qq q 0 x.acc x.s) (hM : Mxs kk qq q 0 x.acc) :
    Old kk qq vv q 0 (alOf (tripFn kk qq vv i ⟨0, h0⟩ x).acc) (tripFn kk qq vv i ⟨0, h0⟩ x).p (tripFn kk qq vv i ⟨0, h0⟩ x).a where
  al hd d j := by
    show alOf (carryNext _ x.acc) hd (ix2 0 j) * _ = _
    rw [alOf_after hN hM, alpha_first hf]
    rfl
  p hd r j := p_after hN hM x.p hd r j

/-- A later trip of a block. -/
theorem later_trip (hf : Fin8 kk qq) {k : ℕ} (hk : k + 1 < (k0_t1_loop i).trips) (x : St Ideal) (hN : New kk qq q (k + 1) x.acc x.s)
    (hM : Mxs kk qq q (k + 1) x.acc) (hO : Old kk qq vv q k (alOf x.acc) x.p x.a) :
    Old kk qq vv q (k + 1) (alOf (tripFn kk qq vv i ⟨k + 1, hk⟩ x).acc) (tripFn kk qq vv i ⟨k + 1, hk⟩ x).p (tripFn kk qq vv i ⟨k + 1, hk⟩ x).a where
  al hd d j := by
    have h8 : k + 1 < 8 := trip_lt i ⟨k + 1, hk⟩
    show alOf (carryNext _ x.acc) hd (ix2 0 j) * aNext (F := Ideal) (nxtOf (k + 1)) (alOf x.acc) vv ⟨cPrev (k + 1), _⟩ x.p x.a (ix3 hd d j) = _
    rw [alOf_after hN hM, a_after kk qq vv hO (nxtOf (k + 1)) (Fin.ext (by show (k + 1 + 1) % 2 = k % 2; omega)) _
      (Fin.ext (by show (if k + 1 = 0 then 7 else k + 1 - 1) = k % 8; rw [if_neg (by omega)]; omega))]
    exact alpha_num vv hf hd q k (k + 1) d j
  p hd r j := p_after hN hM x.p hd r j

/-- The scores a trip makes ready. -/
theorem New_after (k : Fin (k0_t1_loop i).trips) (x : St Ideal) (q' : Fin 32) (k' : ℕ) (hq : q'.val = qNext i k.val) (hk : k' = cNext k.val) :
    New kk qq q' k' (tripFn kk qq vv i k x).acc (tripFn kk qq vv i k x).s := by
  have h8 : k.val < 8 := trip_lt i k
  have hs : ∀ hd, blkOf (F := Ideal) kk qq i k hd = scr kk qq hd q' k' := fun hd => by
    unfold blkOf scr
    refine congr (congrArg (scoreBlk (F := Ideal) kk qq hd) (Fin.ext ?_)) (Fin.ext hq.symm)
    show cNext k.val = k' % 8
    rw [hk, Nat.mod_eq_of_lt (cNext_lt h8)]
  have e0 : (tripFn kk qq vv i k x).acc = carryNext (blkOf (F := Ideal) kk qq i k) x.acc := by unfold tripFn; rfl
  refine ⟨fun hd r j => ?_, ?_, ?_⟩
  rotate_left
  · rw [e0, carryNext]; dsimp only; rw [hs]
  · rw [e0, carryNext]; dsimp only; rw [hs]
  have e : (curOf k').val = (nxtOf k.val).val := by
    show k' % 2 = (k.val + 1) % 2
    rw [hk]; unfold cNext; split <;> omega
  exact (if_pos (c := (curOf k').val = (nxtOf k.val).val) e).trans (congrFun (hs hd) (ix2 r j))

end Cert.Mla
end
-- ==== Proof.System.lean ====
module

public import proofs.«01_k».proof.Proof.Online
public import proofs.«01_k».proof.Proof.Launch

@[expose] public section

set_option maxRecDepth 16384

noncomputable section

namespace Cert.Mla

open Cert.KernelIdeal Cert.KernelIdeal.Gen
open Idealize.ShloMosaic

attribute [local irreducible] mxOf num scoreBlk outV mNew alphaNew

/-! ## One block of queries, and the system of the launch over the extended reals -/

section Block

variable {kk : S1x2x16384x128.Idx → EReal} {qq : S1x2x32x128x512.Idx → EReal} {vv : S1x2x8x80x2048.Idx → EReal}
variable {i : grid0.Coords} {q q' q0 : Fin 32}

theorem trip_o (k : Fin (k0_t1_loop i).trips) (x : St Ideal) :
    (tripFn (F := Ideal) kk qq vv i k x).o = if k.val = 0 ∧ 0 < qb i then
      outV (aNext (nxtOf k) (alOf x.acc) vv ⟨cPrev k.val, cPrev_lt (trip_lt i k)⟩ x.p x.a) else x.o := by
  unfold tripFn; rfl

theorem runTo_succ (n : ℕ) (h : n < (k0_t1_loop i).trips) (x : St Ideal) :
    runTo (F := Ideal) kk qq vv i (n + 1) x = tripFn kk qq vv i ⟨n, h⟩ (runTo kk qq vv i n x) := by
  rw [runTo, dif_pos h]

/-- What the first `n + 1` trips leave. -/
theorem run_block (hf : Fin8 kk qq) (hq : q.val = min (qb i) 31) (hq' : q'.val = min (qb i + 1) 31) (x : St Ideal)
    (hN : New kk qq q 0 x.acc x.s) (hM : Mxs kk qq q 0 x.acc) :
    (n : ℕ) → (h : n < (k0_t1_loop i).trips) →
      Old kk qq vv q n (alOf (runTo kk qq vv i (n + 1) x).acc) (runTo kk qq vv i (n + 1) x).p (runTo kk qq vv i (n + 1) x).a
      ∧ Mxs kk qq q (n + 1) (runTo kk qq vv i (n + 1) x).acc
      ∧ (n < 7 → New kk qq q (n + 1) (runTo kk qq vv i (n + 1) x).acc (runTo kk qq vv i (n + 1) x).s)
      ∧ (n = 7 → New kk qq q' 0 (runTo kk qq vv i (n + 1) x).acc (runTo kk qq vv i (n + 1) x).s)
  | 0, h => by
    rw [runTo_succ 0 h]
    refine ⟨first_trip hf h x hN hM, ?_, fun _ => ?_, fun h7 => absurd h7 (by omega)⟩
    · unfold tripFn; exact Mxs_after hN hM _
    · refine New_after ⟨0, h⟩ x q 1 ?_ rfl
      rw [hq]; rfl
  | n + 1, h => by
    have h8 : n + 1 < 8 := trip_lt i ⟨n + 1, h⟩
    obtain ⟨hO, hM', hN', -⟩ := run_block hf hq hq' x hN hM n (Nat.lt_of_succ_lt h)
    have hN'' := hN' (by omega)
    rw [runTo_succ (n + 1) h]
    refine ⟨later_trip hf h _ hN'' hM' hO, ?_, fun h7 => ?_, fun h7 => ?_⟩
    · unfold tripFn; exact Mxs_after hN'' hM' _
    · refine New_after ⟨n + 1, h⟩ _ q (n + 1 + 1) ?_ ?_
      · show q.val = if n + 1 + 1 = 8 then min (qb i + 1) 31 else min (qb i) 31
        rw [if_neg (by omega), hq]
      · show n + 1 + 1 = if n + 1 + 1 = 8 then 0 else n + 1 + 1
        rw [if_neg (by omega)]
    · refine New_after ⟨n + 1, h⟩ _ q' 0 ?_ ?_
      · show q'.val = if n + 1 + 1 = 8 then min (qb i + 1) 31 else min (qb i) 31
        rw [if_pos (by omega), hq']
      · show 0 = if n + 1 + 1 = 8 then 0 else n + 1 + 1
        rw [if_pos (by omega)]

/-- The block written by the trips is the quotient of the block before. -/
theorem run_out (hi : 0 < qb i) (x : St Ideal) (hO : Old kk qq vv q0 7 (alOf x.acc) x.p x.a) :
    (n : ℕ) → (h : n < (k0_t1_loop i).trips) →
      (runTo kk qq vv i (n + 1) x).o = outV (F := Ideal) (fun y => num kk qq vv (y 0) q0 8 8 (y 1) (y 2))
  | 0, h => by
    rw [runTo_succ 0 h]
    rw [trip_o, if_pos ⟨rfl, hi⟩]
    exact congrArg (outV (F := Ideal)) (a_after kk qq vv hO (nxtOf 0) rfl _ (Fin.ext rfl))
  | n + 1, h => by
    rw [runTo_succ (n + 1) h]
    rw [trip_o, if_neg (fun h' => absurd h'.1 (Nat.succ_ne_zero n))]
    exact run_out hi x hO n (Nat.lt_of_succ_lt h)

/-- The scores and maxima the loop starts from. -/
theorem start_new (s : S2x2x2048x512.Idx → EReal) (p : S2x2x2048x512.Idx → EReal) (a : S2x80x512.Idx → EReal)
    (st : S2x2x1x512.Idx → EReal) (o : S1x512x128.Idx → EReal) (hq : q.val = min (qb i) 31)
    (h : qb i ≠ 0 → New kk qq q 0 (carryOf (F := Ideal) st) s) :
    New kk qq q 0 (startAt (F := Ideal) kk qq i s p a st o).acc (startAt (F := Ideal) kk qq i s p a st o).s
      ∧ Mxs kk qq q 0 (startAt (F := Ideal) kk qq i s p a st o).acc := by
  by_cases h0 : qb i = 0
  · obtain rfl : q = 0 := Fin.ext (by rw [hq, h0]; rfl)
    rw [startAt, if_pos h0]
    have e : ∀ hd, blk0 (F := Ideal) kk qq hd = scr kk qq hd 0 0 := fun hd => by unfold blk0 scr; rfl
    refine ⟨⟨fun hd r j => ?_, ?_, ?_⟩, ⟨by rw [Mx], by rw [Mx]⟩⟩
    · exact (if_pos (c := (curOf 0).val = (0 : Fin 2).val) (e := s (ix4 (curOf 0) hd r j)) rfl).trans (congrFun (e hd) (ix2 r j))
    · dsimp only; rw [e]
    · dsimp only; rw [e]
  · rw [startAt, if_neg h0]
    refine ⟨h h0, ⟨?_, ?_⟩⟩
    · rw [Mx, carryOf]
    · rw [Mx, carryOf]; exact congrArg _ rfl

theorem hand_old {k : ℕ} {acc : Carry Ideal} {p : S2x2x2048x512.Idx → EReal} {a : S2x80x512.Idx → EReal}
    (h : Old kk qq vv q k (alOf acc) p a) : Old kk qq vv q k (alOf (hand acc)) p a := h

theorem hand_new {k : ℕ} {acc : Carry Ideal} {s : S2x2x2048x512.Idx → EReal} (h : New kk qq q k acc s) :
    New kk qq q k (hand acc) s := ⟨h.s, h.mx0, h.mx1⟩

/-- A point leaves for the next what it found for itself, and writes the block before. -/
theorem point_step (hf : Fin8 kk qq) (hq : q.val = min (qb i) 31) (hq' : qb i ≠ 32 → q'.val = min (qb i + 1) 31)
    (s : S2x2x2048x512.Idx → EReal) (p : S2x2x2048x512.Idx → EReal) (a : S2x80x512.Idx → EReal)
    (st : S2x2x1x512.Idx → EReal) (o : S1x512x128.Idx → EReal) (y : St Ideal)
    (hJ : qb i ≠ 0 → Old kk qq vv q0 7 (alOf (carryOf (F := Ideal) st)) p a ∧ New kk qq q 0 (carryOf (F := Ideal) st) s)
    (hy : y = runTo (F := Ideal) kk qq vv i (k0_t1_loop i).trips (startAt (F := Ideal) kk qq i s p a st o)) :
    (qb i ≠ 32 → Old kk qq vv q 7 (alOf (hand y.acc)) y.p y.a ∧ New kk qq q' 0 (hand y.acc) y.s)
      ∧ (qb i ≠ 0 → y.o = outV (F := Ideal) (fun y => num kk qq vv (y 0) q0 8 8 (y 1) (y 2))) := by
  have hNM := start_new s p a st o hq fun h => (hJ h).2
  have hO0 : qb i ≠ 0 → Old kk qq vv q0 7 (alOf (startAt (F := Ideal) kk qq i s p a st o).acc)
      (startAt (F := Ideal) kk qq i s p a st o).p (startAt (F := Ideal) kk qq i s p a st o).a := fun h => by
    rw [startAt, if_neg h]; exact (hJ h).1
  generalize startAt (F := Ideal) kk qq i s p a st o = x at hNM hO0 hy
  have htr := trips_eq i
  constructor
  · intro h32
    rw [if_neg h32] at htr
    obtain ⟨hO, -, -, hN⟩ := run_block (vv := vv) hf hq (hq' h32) x hNM.1 hNM.2 7 (by rw [htr]; omega)
    rw [htr] at hy
    replace hN := hN rfl
    rw [← hy] at hO hN
    exact ⟨hand_old hO, hand_new hN⟩
  · intro h0
    obtain ⟨k, hk⟩ : ∃ k, (k0_t1_loop i).trips = k + 1 := ⟨(k0_t1_loop i).trips - 1, by rw [htr]; split <;> rfl⟩
    rw [hk] at hy
    rw [hy]
    exact run_out (by omega) x (hO0 h0) k (by omega)

end Block

variable (m : (ℓ : Loc nD τ sig) → Buf (Elt Ideal) ℓ) (c : Dev nD)

/-- The block of queries point `t` finishes, and the one it begins. -/
def qOld (t : ℕ) : Fin 32 := ⟨min (t % 33 - 1) 31, by omega⟩
def qNew (t : ℕ) : Fin 32 := ⟨min (t % 33) 31, by omega⟩

/-- The system over the extended reals. -/
def sys (hfin : ∀ t : Fin cfg0.N, Fin8 (iblk m c 1 t) (iblk m c 0 t))
    (hsame : ∀ (t t' : Fin cfg0.N), t'.val = t.val + 1 → t'.val % 33 ≠ 0 →
      iblk m c 0 t' = iblk m c 0 t ∧ iblk m c 1 t' = iblk m c 1 t ∧ iblk m c 2 t' = iblk m c 2 t) : Sys m c where
  J t acc s p a := ∀ h : t < cfg0.N, Old (iblk m c 1 ⟨t, h⟩) (iblk m c 0 ⟨t, h⟩) (iblk m c 2 ⟨t, h⟩) (qOld t) 7 (alOf acc) p a
    ∧ New (iblk m c 1 ⟨t, h⟩) (iblk m c 0 ⟨t, h⟩) (qNew t) 0 acc s
  O t o := o = outV (F := Ideal) (fun y => num (iblk m c 1 t) (iblk m c 0 t) (iblk m c 2 t) (y 0) (qOld t.val) 8 8 (y 1) (y 2))
  step t s p a st o y hJ hy := by
    have hqb := qb_coords t
    have h := point_step (q := qNew t.val) (q' := qNew (t.val + 1)) (q0 := qOld t.val) (i := grid0.coords t) (hfin t)
      (by rw [hqb]; rfl)
      (by rw [hqb]; intro h32; show min ((t.val + 1) % 33) 31 = min (t.val % 33 + 1) 31; omega) s p a st o y
      (fun h0 => hJ (by rwa [hqb] at h0) t.isLt) hy
    refine ⟨fun h1 hlt => ?_, fun h0 => h.2 (by rwa [hqb])⟩
    obtain ⟨e0, e1, e2⟩ := hsame t ⟨t.val + 1, hlt⟩ rfl h1
    have eq : qOld (t.val + 1) = qNew t.val := Fin.ext (by
      show min ((t.val + 1) % 33 - 1) 31 = min (t.val % 33) 31; omega)
    rw [e0, e1, e2, eq]
    exact h.1 (by rw [hqb]; omega)

end Cert.Mla
end
-- ==== Proof.ArgDefs.lean ====
module

public import proofs.«01_k».proof.Proof.Launch
public import Idealize.ShloMosaic.Lib.Claim
public import Idealize.ShloMosaic.Lib.IdealHost

@[expose] public section

set_option maxRecDepth 16384

noncomputable section

namespace Cert.Mla

open Cert.KernelIdeal Cert.KernelIdeal.Gen
open Idealize.ShloMosaic Idealize.ShloMosaic.TcCoe

variable (m : (ℓ : Loc nD τ sig) → Buf (Elt Ideal) ℓ) (c : Dev nD)

/-! ## The arrays of the launch, from the arguments -/

/-- The three arguments, by entries. -/
def aq (b : Fin 2) (n : Fin 16384) (h : Fin 8) (d : Fin 96) : EReal := m ((c : Thread nD τ).loc main_arg0) (ix4 b n h d)
def ak (b : Fin 2) (n : Fin 16384) (h : Fin 8) (d : Fin 96) : EReal := m ((c : Thread nD τ).loc main_arg1) (ix4 b n h d)
def av (b : Fin 2) (n : Fin 16384) (h : Fin 8) (d : Fin 64) : EReal := m ((c : Thread nD τ).loc main_arg2) (ix4 b n h d)

/-- The arrays of the queries, keys and values as the launch finds them. -/
def qArr : S2x8x32x128x512.Idx → EReal := V m c main_v10
def kArr : S2x8x16384x128.Idx → EReal := V m c main_v14
def vArr : S2x8x8x80x2048.Idx → EReal := V m c main_v20

theorem f96 : Ideal.ofBits FTy.f32 0x42C00000#32 = ((96 : ℝ) : EReal) := by
  simp [Ideal.ofBits, Ideal.ieee, -EReal.coe_mul]; norm_num
theorem f2 : Ideal.ofBits FTy.f32 0x40000000#32 = ((2 : ℝ) : EReal) := by
  simp [Ideal.ofBits, Ideal.ieee, -EReal.coe_mul]; norm_num

end Cert.Mla
end
-- ==== Proof.Arrays.lean ====
module

public import proofs.«01_k».proof.Proof.ArgDefs
public import Idealize.ShloMosaic.Lib.Claim
public import Idealize.ShloMosaic.Lib.IdealHost

@[expose] public section

set_option maxRecDepth 16384

noncomputable section

namespace Cert.Mla

open Cert.KernelIdeal Cert.KernelIdeal.Gen
open Idealize.ShloMosaic Idealize.ShloMosaic.TcCoe

variable (m : (ℓ : Loc nD τ sig) → Buf (Elt Ideal) ℓ) (c : Dev nD)

/-! ## The arrays of the launch, from the arguments -/

theorem q_array (b : Fin 2) (h : Fin 8) (q : Fin 32) (d : Fin 128) (j : Fin 512) :
    qArr m c (ix5 b h q d j)
      = if hd : d.val < 96 then aq m c b ⟨512 * q.val + j.val, by omega⟩ h ⟨d.val, hd⟩ * (Ideal.div 1 (Ideal.sqrt (96 : ℝ) * Ideal.log (2 : ℝ))) else 0 := by
  unfold qArr
  entry_read
  pointwise []
  rw [f96, f2]
  by_cases hd : d.val < 96
  · rw [dif_pos hd, dif_pos hd]
    have e : (⟨q.val * 512 + j.val, by omega⟩ : Fin 16384) = ⟨512 * q.val + j.val, by omega⟩ :=
      Fin.ext (by show q.val * 512 + j.val = 512 * q.val + j.val; omega)
    rw [← e]
    rfl
  · rw [dif_neg hd, dif_neg hd]

end Cert.Mla
end
-- ==== Proof.ArraysK.lean ====
module

public import proofs.«01_k».proof.Proof.ArgDefs
public import Idealize.ShloMosaic.Lib.Claim
public import Idealize.ShloMosaic.Lib.IdealHost

@[expose] public section

set_option maxRecDepth 16384

noncomputable section

namespace Cert.Mla

open Cert.KernelIdeal Cert.KernelIdeal.Gen
open Idealize.ShloMosaic Idealize.ShloMosaic.TcCoe

variable (m : (ℓ : Loc nD τ sig) → Buf (Elt Ideal) ℓ) (c : Dev nD)

/-! ## The arrays of the launch, from the arguments -/

theorem k_array (b : Fin 2) (h : Fin 8) (n : Fin 16384) (d : Fin 128) :
    kArr m c (ix4 b h n d) = if hd : d.val < 96 then ak m c b n h ⟨d.val, hd⟩ else 0 := by
  unfold kArr
  entry_read
  pointwise []
  rfl

end Cert.Mla
end
-- ==== Proof.ArraysV.lean ====
module

public import proofs.«01_k».proof.Proof.ArgDefs
public import Idealize.ShloMosaic.Lib.Claim
public import Idealize.ShloMosaic.Lib.IdealHost

@[expose] public section

set_option maxRecDepth 16384

noncomputable section

namespace Cert.Mla

open Cert.KernelIdeal Cert.KernelIdeal.Gen
open Idealize.ShloMosaic Idealize.ShloMosaic.TcCoe

variable (m : (ℓ : Loc nD τ sig) → Buf (Elt Ideal) ℓ) (c : Dev nD)

/-! ## The arrays of the launch, from the arguments -/

/-- The values with the row of ones and the padding. -/
def vCat : FVec Ideal S2x16384x8x80 .f32 :=
  concatenate S2x16384x8x80 3 [⟨S2x16384x8x64, (m ((c : Thread nD τ).loc main_arg2) : FVec Ideal S2x16384x8x64 .f32)⟩,
      ⟨S2x16384x8x1, broadcastInDim S2x16384x8x1 ![] bcast_S_S2x16384x8x1 (constant S_ .f32 0x3F800000#32 : FVec Ideal S_ .f32)⟩,
      ⟨S2x16384x8x15, broadcastInDim S2x16384x8x15 ![] bcast_S_S2x16384x8x15 (constant S_ .f32 0x00000000#32 : FVec Ideal S_ .f32)⟩]
      concatenates_S2x16384x8x64_S2x16384x8x1_S2x16384x8x15_S2x16384x8x80_d3

theorem vCat_entry (b : Fin 2) (n : Fin 16384) (h : Fin 8) (d : Fin 80) :
    vCat m c (ix4 b n h d) = if hd : d.val < 64 then av m c b n h ⟨d.val, hd⟩ else if d.val = 64 then 1 else 0 := by
  unfold vCat
  pointwise []
  by_cases hd : d.val < 64
  · rw [dif_pos hd, dif_pos hd]; rfl
  · rw [dif_neg hd, dif_neg hd]
    by_cases h1 : d.val = 64
    · rw [dif_pos (by omega), if_pos h1]
    · rw [dif_neg (by omega), if_neg h1]

theorem v_layout (X : FVec Ideal S2x16384x8x80 .f32) (b : Fin 2) (h : Fin 8) (k : Fin 8) (d : Fin 80) (r : Fin 2048) :
    truncf .bf16 (transpose S2x8x8x80x2048 [0, 3, 1, 4, 2] (shapeCast S2x8x2048x8x80 X shapeCasts_S2x16384x8x80_S2x8x2048x8x80)
      transposes_S2x8x2048x8x80_S2x8x8x80x2048_0_3_1_4_2) bitsLt_bf16_f32 (ix5 b h k d r) = X (ix4 b ⟨k.val * 2048 + r.val, by omega⟩ h d) := by
  pointwise []

theorem v_term : vArr m c = truncf .bf16 (transpose S2x8x8x80x2048 [0, 3, 1, 4, 2]
    (shapeCast S2x8x2048x8x80 (vCat m c) shapeCasts_S2x16384x8x80_S2x8x2048x8x80)
    transposes_S2x8x2048x8x80_S2x8x8x80x2048_0_3_1_4_2) bitsLt_bf16_f32 := by
  unfold vArr vCat
  show StableHlo.after hostOps0 (fun b => m (c, b)) main_v20 = _
  after_results <;> rfl

theorem v_array (b : Fin 2) (h : Fin 8) (k : Fin 8) (d : Fin 80) (r : Fin 2048) :
    vArr m c (ix5 b h k d r) = if hd : d.val < 64 then av m c b ⟨2048 * k.val + r.val, by omega⟩ h ⟨d.val, hd⟩ else
      if d.val = 64 then 1 else 0 := by
  have e : (⟨k.val * 2048 + r.val, by omega⟩ : Fin 16384) = ⟨2048 * k.val + r.val, by omega⟩ :=
    Fin.ext (by show k.val * 2048 + r.val = 2048 * k.val + r.val; omega)
  rw [v_term, v_layout, vCat_entry, e]

end Cert.Mla
end
-- ==== Proof.Blocks.lean ====
module

public import proofs.«01_k».proof.Proof.ArgDefs
public import Idealize.ShloMosaic.Lib.Pipeline.ValueKit

@[expose] public section

set_option maxRecDepth 16384

noncomputable section

namespace Cert.Mla

open Cert.KernelIdeal Cert.KernelIdeal.Gen
open Idealize.ShloMosaic Idealize.ShloMosaic.TcCoe

variable (m : (ℓ : Loc nD τ sig) → Buf (Elt Ideal) ℓ) (c : Dev nD)

/-! ## The blocks of the launch -/

theorem places : ∀ t : Fin cfg0.N, win0_0.index t = ![t.val / 132, t.val / 33 % 4, 0, 0, 0]
    ∧ win0_1.index t = ![t.val / 132, t.val / 33 % 4, 0, 0] ∧ win0_2.index t = ![t.val / 132, t.val / 33 % 4, 0, 0, 0]
    ∧ win0_3.index t = ![t.val / 132, t.val % 33 - 1, t.val / 33 % 4] := by
  decide +kernel

/-- The batch and the pair of heads of a point. -/
def bOf (t : Fin cfg0.N) : Fin 2 := ⟨t.val / 132, by have h : t.val < 264 := t.isLt; omega⟩
def hOf (t : Fin cfg0.N) (hd : Fin 2) : Fin 8 := ⟨2 * (t.val / 33 % 4) + hd.val, by have := hd.isLt; omega⟩

theorem q_place (t : Fin cfg0.N) (x : S1x2x32x128x512.Idx) (a : Fin 5) :
    ((win0_0.rect t).emb x a : Nat) = win0_0.index t a * win0_0.size a + (x a).val :=
  Pipeline.Window.rect_emb_val win0_0 t x a rfl

theorem q_read (t : Fin cfg0.N) (X : S2x8x32x128x512.Idx → EReal) (x : S1x2x32x128x512.Idx) :
    ((win0_0.blk t).view.read (Elt Ideal) X) x = X ((win0_0.rect t).emb x) := rfl

theorem q_emb (t : Fin cfg0.N) (x : S1x2x32x128x512.Idx) :
    (win0_0.rect t).emb x = (ix5 (bOf t) (hOf t (x 1)) (x 2) (x 3) (x 4) : S2x8x32x128x512.Idx) := by
  have h0 : (x 0).val < 1 := (x 0).isLt
  have hp := (places t).1
  funext a
  apply Fin.ext
  refine (q_place t x a).trans ?_
  rw [hp]
  match a with
  | 0 => show t.val / 132 * 1 + (x 0).val = t.val / 132; omega
  | 1 => show t.val / 33 % 4 * 2 + (x 1).val = 2 * (t.val / 33 % 4) + (x 1).val; omega
  | 2 => show 0 * 32 + (x 2).val = (x 2).val; omega
  | 3 => show 0 * 128 + (x 3).val = (x 3).val; omega
  | 4 => show 0 * 512 + (x 4).val = (x 4).val; omega

theorem q_block (t : Fin cfg0.N) (x : S1x2x32x128x512.Idx) :
    (iblk m c 0 t : S1x2x32x128x512.Idx → EReal) x = qArr m c (ix5 (bOf t) (hOf t (x 1)) (x 2) (x 3) (x 4)) := by
  rw [← q_emb]
  unfold iblk qArr
  exact q_read t (V m c main_v10) x

theorem k_place (t : Fin cfg0.N) (x : S1x2x16384x128.Idx) (a : Fin 4) :
    ((win0_1.rect t).emb x a : Nat) = win0_1.index t a * win0_1.size a + (x a).val :=
  Pipeline.Window.rect_emb_val win0_1 t x a rfl

theorem k_read (t : Fin cfg0.N) (X : S2x8x16384x128.Idx → EReal) (x : S1x2x16384x128.Idx) :
    ((win0_1.blk t).view.read (Elt Ideal) X) x = X ((win0_1.rect t).emb x) := rfl

theorem zero_mul_add (s n : ℕ) : 0 * s + n = n := by rw [Nat.zero_mul, Nat.zero_add]

theorem k_emb (t : Fin cfg0.N) (x : S1x2x16384x128.Idx) :
    (win0_1.rect t).emb x = (ix4 (bOf t) (hOf t (x 1)) (x 2) (x 3) : S2x8x16384x128.Idx) := by
  have h0 : (x 0).val < 1 := (x 0).isLt
  have hp := (places t).2.1
  funext a
  apply Fin.ext
  refine (k_place t x a).trans ?_
  rw [hp]
  match a with
  | 0 => show t.val / 132 * 1 + (x 0).val = t.val / 132; omega
  | 1 => show t.val / 33 % 4 * 2 + (x 1).val = 2 * (t.val / 33 % 4) + (x 1).val; omega
  | 2 => exact zero_mul_add _ _
  | 3 => exact zero_mul_add _ _

theorem k_block (t : Fin cfg0.N) (x : S1x2x16384x128.Idx) :
    (iblk m c 1 t : S1x2x16384x128.Idx → EReal) x = kArr m c (ix4 (bOf t) (hOf t (x 1)) (x 2) (x 3)) := by
  rw [← k_emb]
  unfold iblk kArr
  exact k_read t (V m c main_v14) x

theorem v_place (t : Fin cfg0.N) (x : S1x2x8x80x2048.Idx) (a : Fin 5) :
    ((win0_2.rect t).emb x a : Nat) = win0_2.index t a * win0_2.size a + (x a).val :=
  Pipeline.Window.rect_emb_val win0_2 t x a rfl

theorem v_read (t : Fin cfg0.N) (X : S2x8x8x80x2048.Idx → EReal) (x : S1x2x8x80x2048.Idx) :
    ((win0_2.blk t).view.read (Elt Ideal) X) x = X ((win0_2.rect t).emb x) := rfl

theorem v_emb (t : Fin cfg0.N) (x : S1x2x8x80x2048.Idx) :
    (win0_2.rect t).emb x = (ix5 (bOf t) (hOf t (x 1)) (x 2) (x 3) (x 4) : S2x8x8x80x2048.Idx) := by
  have h0 : (x 0).val < 1 := (x 0).isLt
  have hp := (places t).2.2.1
  funext a
  apply Fin.ext
  refine (v_place t x a).trans ?_
  rw [hp]
  match a with
  | 0 => show t.val / 132 * 1 + (x 0).val = t.val / 132; omega
  | 1 => show t.val / 33 % 4 * 2 + (x 1).val = 2 * (t.val / 33 % 4) + (x 1).val; omega
  | 2 => exact zero_mul_add _ _
  | 3 => exact zero_mul_add _ _
  | 4 => exact zero_mul_add _ _

theorem v_block (t : Fin cfg0.N) (x : S1x2x8x80x2048.Idx) :
    (iblk m c 2 t : S1x2x8x80x2048.Idx → EReal) x = vArr m c (ix5 (bOf t) (hOf t (x 1)) (x 2) (x 3) (x 4)) := by
  rw [← v_emb]
  unfold iblk vArr
  exact v_read t (V m c main_v20) x

theorem same_blocks (t t' : Fin cfg0.N) (ht : t'.val = t.val + 1) (h : t'.val % 33 ≠ 0) :
    iblk m c 0 t' = iblk m c 0 t ∧ iblk m c 1 t' = iblk m c 1 t ∧ iblk m c 2 t' = iblk m c 2 t := by
  have eb : bOf t' = bOf t := Fin.ext (by show t'.val / 132 = t.val / 132; omega)
  have eh : hOf t' = hOf t := funext fun hd => Fin.ext (by
    show 2 * (t'.val / 33 % 4) + hd.val = 2 * (t.val / 33 % 4) + hd.val; omega)
  refine ⟨funext fun x => ?_, funext fun x => ?_, funext fun x => ?_⟩
  · refine (q_block m c t' x).trans (Eq.trans ?_ (q_block m c t x).symm); rw [eb, eh]
  · refine (k_block m c t' x).trans (Eq.trans ?_ (k_block m c t x).symm); rw [eb, eh]
  · refine (v_block m c t' x).trans (Eq.trans ?_ (v_block m c t x).symm); rw [eb, eh]

end Cert.Mla
end
-- ==== Proof.Softmax.lean ====
module

public import proofs.«01_k».proof.Proof.Online

@[expose] public section

noncomputable section

namespace Cert.Mla

open Idealize.ShloMosaic

/-! ## The quotient of the sums against the sum of the quotients -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A common factor of the weights drops out, whatever the values are. -/
theorem softmax_ratio {ι : Type} [Fintype ι] [Nonempty ι] (v : ι → EReal) (e : ι → ℝ) (he : ∀ i, 0 < e i) (l : ℝ) (hl : 0 < l) :
    Ideal.div (∑ i, v i * ((l * e i : ℝ) : EReal)) (∑ i, 1 * ((l * e i : ℝ) : EReal))
      = ∑ i, v i * Ideal.div (e i : EReal) (∑ i, (e i : EReal)) := by
  have hD : 0 < ∑ i, e i := Finset.sum_pos (fun i _ => he i) Finset.univ_nonempty
  have e1 : (∑ i, 1 * ((l * e i : ℝ) : EReal)) = ((l * ∑ i, e i : ℝ) : EReal) := by
    rw [Finset.mul_sum, coe_sum]
    exact Finset.sum_congr rfl fun i _ => one_mul _
  rw [e1, ← coe_sum, Ideal.div_coe (mul_pos hl hD).ne', mul_comm,
    mul_sum_real _ (one_div_pos.mpr (mul_pos hl hD)).le]
  refine Finset.sum_congr rfl fun i _ => ?_
  rw [Ideal.div_coe hD.ne', mul_left_comm, ← EReal.coe_mul, ← EReal.coe_mul]
  refine congrArg (fun x : ℝ => v i * (x : EReal)) ?_
  field_simp

/-- The keys chunk by chunk. -/
theorem sum_chunks (g : Fin 16384 → EReal) :
    ∑ c ∈ Finset.range 8, ∑ r : Fin 2048, g ⟨2048 * (c8 c).val + r.val, by have := (c8 c).isLt; omega⟩ = ∑ i, g i := by
  rw [Finset.sum_range, ← Fintype.sum_prod_type']
  refine Fintype.sum_equiv (finProdFinEquiv (m := 8) (n := 2048)) _ _ fun x => congrArg g (Fin.ext ?_)
  show 2048 * (x.1.val % 8) + x.2.val = x.2.val + 2048 * x.1.val
  rw [Nat.mod_eq_of_lt x.1.isLt, Nat.add_comm]

/-- A weight to base two at the kernel's scale is the reference's weight, up to a factor of its own. -/
theorem weight_base (x M M' : ℝ) :
    Ideal.exp2 (((x * (1 / (Real.sqrt 96 * Real.log 2)) : ℝ) : EReal) - (M : EReal))
      = ((Real.exp (M' - M * Real.log 2) * Real.exp (x * (1 / Real.sqrt 96) - M') : ℝ) : EReal) := by
  have h2 : Real.log 2 ≠ 0 := (Real.log_pos (by norm_num)).ne'
  rw [← EReal.coe_sub, Ideal.exp2_coe]
  refine congrArg _ ?_
  refine (Real.rpow_def_of_pos (by norm_num : (0 : ℝ) < 2) _).trans ?_
  rw [← Real.exp_add]
  refine congrArg Real.exp ?_
  field_simp
  ring

theorem kernel_scale : Ideal.div 1 (Ideal.sqrt ((96 : ℝ) : EReal) * Ideal.log ((2 : ℝ) : EReal))
    = ((1 / (Real.sqrt 96 * Real.log 2) : ℝ) : EReal) := by
  have h2 : 0 < Real.log 2 := Real.log_pos (by norm_num)
  have h3 : 0 < Real.sqrt 96 := Real.sqrt_pos.mpr (by norm_num)
  rw [Ideal.sqrt_coe, Ideal.log_coe, if_neg (by norm_num), if_neg (by norm_num), ← EReal.coe_mul,
    Ideal.div_coe (mul_pos h3 h2).ne', one_mul]

theorem reference_scale : Ideal.div 1 (Ideal.sqrt ((96 : ℝ) : EReal)) = ((1 / Real.sqrt 96 : ℝ) : EReal) := by
  have h3 : 0 < Real.sqrt 96 := Real.sqrt_pos.mpr (by norm_num)
  rw [Ideal.sqrt_coe, if_neg (by norm_num), Ideal.div_coe h3.ne', one_mul]

end Cert.Mla
end
-- ==== Proof.Value.lean ====
module

public import proofs.«01_k».proof.Proof.System
public import proofs.«01_k».proof.Proof.Arrays
public import proofs.«01_k».proof.Proof.ArraysK
public import proofs.«01_k».proof.Proof.ArraysV
public import proofs.«01_k».proof.Proof.Blocks
public import proofs.«01_k».proof.Proof.Softmax

@[expose] public section

set_option maxRecDepth 16384

noncomputable section

namespace Cert.Mla

open Cert.KernelIdeal Cert.KernelIdeal.Gen
open Idealize.ShloMosaic Idealize.ShloMosaic.TcCoe

variable {m : (ℓ : Loc nD τ sig) → Buf (Elt Ideal) ℓ} {c : Dev nD}

/-! ## What a point writes, from the arguments -/

/-- The entries of a batch of queries or keys. -/
abbrev Rows := Fin 2 → Fin 16384 → Fin 8 → Fin 96 → ℝ

/-- The unscaled score of a query and a key. -/
def dotOf (qr kr : Rows) (b : Fin 2) (h : Fin 8) (n i : Fin 16384) : ℝ := ∑ d, qr b n h d * kr b i h d

variable {qr kr : Rows}

/-- The blocks of a point. -/
def qB (m : (ℓ : Loc nD τ sig) → Buf (Elt Ideal) ℓ) (c : Dev nD) (t : Fin cfg0.N) : S1x2x32x128x512.Idx → EReal := iblk m c 0 t
def kB (m : (ℓ : Loc nD τ sig) → Buf (Elt Ideal) ℓ) (c : Dev nD) (t : Fin cfg0.N) : S1x2x16384x128.Idx → EReal := iblk m c 1 t
def vB (m : (ℓ : Loc nD τ sig) → Buf (Elt Ideal) ℓ) (c : Dev nD) (t : Fin cfg0.N) : S1x2x8x80x2048.Idx → EReal := iblk m c 2 t

theorem qB_entry (t : Fin cfg0.N) (x : S1x2x32x128x512.Idx) :
    qB m c t x = qArr m c (ix5 (bOf t) (hOf t (x 1)) (x 2) (x 3) (x 4)) := q_block m c t x
theorem kB_entry (t : Fin cfg0.N) (x : S1x2x16384x128.Idx) :
    kB m c t x = kArr m c (ix4 (bOf t) (hOf t (x 1)) (x 2) (x 3)) := k_block m c t x
theorem vB_entry (t : Fin cfg0.N) (x : S1x2x8x80x2048.Idx) :
    vB m c t x = vArr m c (ix5 (bOf t) (hOf t (x 1)) (x 2) (x 3) (x 4)) := v_block m c t x

/-- A sum over the padded width is the sum over the width. -/
theorem sum_padded (f : Fin 96 → EReal) :
    ∑ d : Fin 128, (if hd : d.val < 96 then f ⟨d.val, hd⟩ else 0) = ∑ d, f d := by
  rw [Fin.sum_univ_add (a := 96) (b := 32)]
  rw [Finset.sum_eq_zero (s := Finset.univ) (f := fun i : Fin 32 => _) fun i _ => dif_neg (by
    show ¬ 96 + i.val < 96; omega), add_zero]
  exact Finset.sum_congr rfl fun i _ => dif_pos i.isLt

theorem score_value (hq : ∀ b n h d, aq m c b n h d = (qr b n h d : EReal)) (hk : ∀ b n h d, ak m c b n h d = (kr b n h d : EReal))
    (t : Fin cfg0.N) (hd : Fin 2) (x : Fin 8) (q : Fin 32) (r : Fin 2048) (j : Fin 512) :
    scoreBlk (F := Ideal) (kB m c t) (qB m c t) hd x q (ix2 r j)
      = ((dotOf qr kr (bOf t) (hOf t hd) ⟨512 * q.val + j.val, by omega⟩ ⟨2048 * x.val + r.val, by omega⟩
          * (1 / (Real.sqrt 96 * Real.log 2)) : ℝ) : EReal) := by
  rw [score_entry]
  have e : ∀ d : Fin 128, kB m c t (ix4 0 hd ⟨2048 * x.val + r.val, by omega⟩ d)
      * qB m c t (ix5 0 hd q d j)
      = if hh : d.val < 96 then (fun d' : Fin 96 => ((kr (bOf t) ⟨2048 * x.val + r.val, by omega⟩ (hOf t hd) d'
          * (qr (bOf t) ⟨512 * q.val + j.val, by omega⟩ (hOf t hd) d' * (1 / (Real.sqrt 96 * Real.log 2))) : ℝ) : EReal)) ⟨d.val, hh⟩ else 0 := by
    intro d
    rw [kB_entry, qB_entry]
    show kArr m c (ix4 (bOf t) (hOf t hd) ⟨2048 * x.val + r.val, _⟩ d) * qArr m c (ix5 (bOf t) (hOf t hd) q d j) = _
    rw [k_array, q_array, kernel_scale]
    by_cases hh : d.val < 96
    · rw [dif_pos hh, dif_pos hh, dif_pos hh, hq, hk, ← EReal.coe_mul, ← EReal.coe_mul]
    · rw [dif_neg hh, dif_neg hh, dif_neg hh, zero_mul]
  refine (Finset.sum_congr rfl fun d _ => e d).trans ((sum_padded (fun d' : Fin 96 => ((kr (bOf t) ⟨2048 * x.val + r.val, by omega⟩ (hOf t hd) d'
          * (qr (bOf t) ⟨512 * q.val + j.val, by omega⟩ (hOf t hd) d' * (1 / (Real.sqrt 96 * Real.log 2))) : ℝ) : EReal))).trans ?_)
  rw [← coe_sum]
  refine congrArg _ ?_
  unfold dotOf
  rw [Finset.sum_mul]
  exact Finset.sum_congr rfl fun d _ => by ring

theorem scores_finite (hq : ∀ b n h d, aq m c b n h d = (qr b n h d : EReal)) (hk : ∀ b n h d, ak m c b n h d = (kr b n h d : EReal))
    (t : Fin cfg0.N) : Fin8 (kB m c t) (qB m c t) := fun hd x q y =>
  ⟨_, (congrArg (scoreBlk (F := Ideal) (kB m c t) (qB m c t) hd x q) (eq_ix2 y)).trans (score_value hq hk t hd x q (y 0) (y 1))⟩

/-- The kernel's weights are the reference's, up to a factor of the query. -/
theorem weight_value (hq : ∀ b n h d, aq m c b n h d = (qr b n h d : EReal)) (hk : ∀ b n h d, ak m c b n h d = (kr b n h d : EReal))
    (t : Fin cfg0.N) (hd : Fin 2) (q : Fin 32) (j : Fin 512) (M' : ℝ) : ∃ l : ℝ, 0 < l ∧ ∀ (x : ℕ) (r : Fin 2048),
      wt (kB m c t) (qB m c t) hd q 8 x r j
        = ((l * Real.exp (dotOf qr kr (bOf t) (hOf t hd) ⟨512 * q.val + j.val, by omega⟩
            ⟨2048 * (c8 x).val + r.val, by have := (c8 x).isLt; omega⟩ * (1 / Real.sqrt 96) - M') : ℝ) : EReal) := by
  obtain ⟨M, hM⟩ := Mx_finite (scores_finite hq hk t) hd q j 7
  refine ⟨Real.exp (M' - M * Real.log 2), Real.exp_pos _, fun x r => ?_⟩
  unfold wt scr
  rw [score_value hq hk, hM, weight_base _ M M']

/-- The numerators of a point. -/
theorem num_value (hq : ∀ b n h d, aq m c b n h d = (qr b n h d : EReal)) (hk : ∀ b n h d, ak m c b n h d = (kr b n h d : EReal))
    (t : Fin cfg0.N) (hd : Fin 2) (q : Fin 32) (j : Fin 512) (M' : ℝ) : ∃ l : ℝ, 0 < l ∧ ∀ (d : Fin 80),
      num (kB m c t) (qB m c t) (vB m c t) hd q 8 8 d j
        = ∑ i : Fin 16384, (if hd' : d.val < 64 then av m c (bOf t) i (hOf t hd) ⟨d.val, hd'⟩ else if d.val = 64 then 1 else 0)
          * ((l * Real.exp (dotOf qr kr (bOf t) (hOf t hd) ⟨512 * q.val + j.val, by omega⟩ i * (1 / Real.sqrt 96) - M') : ℝ) : EReal) := by
  obtain ⟨l, hl, h⟩ := weight_value hq hk t hd q j M'
  refine ⟨l, hl, fun d => ?_⟩
  rw [← sum_chunks]
  unfold num
  refine Finset.sum_congr rfl fun x _ => Finset.sum_congr rfl fun r _ => ?_
  rw [h, vB_entry]
  show vArr m c (ix5 (bOf t) (hOf t hd) (c8 x) d r) * _ = _
  rw [v_array]

/-- The entry of the result at a query and a lane, from the arguments. -/
def entryOf (v : Fin 16384 → EReal) (s : Fin 16384 → ℝ) (M' : ℝ) : EReal :=
  ∑ i, v i * Ideal.div ((Real.exp (s i * (1 / Real.sqrt 96) - M') : ℝ) : EReal)
    (∑ i, ((Real.exp (s i * (1 / Real.sqrt 96) - M') : ℝ) : EReal))

theorem ratio_value (hq : ∀ b n h d, aq m c b n h d = (qr b n h d : EReal)) (hk : ∀ b n h d, ak m c b n h d = (kr b n h d : EReal))
    (t : Fin cfg0.N) (hd : Fin 2) (q : Fin 32) (j : Fin 512) (d : Fin 64) (M' : ℝ) :
    Ideal.div (num (kB m c t) (qB m c t) (vB m c t) hd q 8 8 ⟨d.val, by omega⟩ j)
        (num (kB m c t) (qB m c t) (vB m c t) hd q 8 8 64 j)
      = entryOf (fun i => av m c (bOf t) i (hOf t hd) d)
          (dotOf qr kr (bOf t) (hOf t hd) ⟨512 * q.val + j.val, by omega⟩) M' := by
  obtain ⟨l, hl, h⟩ := num_value hq hk t hd q j M'
  rw [h, h]
  haveI : Nonempty (Fin 16384) := ⟨⟨0, by norm_num⟩⟩
  refine Eq.trans ?_ (softmax_ratio (fun i => av m c (bOf t) i (hOf t hd) d)
    (fun i => Real.exp (dotOf qr kr (bOf t) (hOf t hd) ⟨512 * q.val + j.val, by omega⟩ i * (1 / Real.sqrt 96) - M'))
    (fun i => Real.exp_pos _) l hl)
  refine congrArg₂ Ideal.div (Finset.sum_congr rfl fun i _ => ?_) (Finset.sum_congr rfl fun i _ => ?_)
  · rw [dif_pos (show d.val < 64 from d.isLt)]
  · rw [dif_neg (show ¬ (64 : Fin 80).val < 64 by decide), if_pos (show (64 : Fin 80).val = 64 by decide)]

end Cert.Mla
end
-- ==== Proof.Output.lean ====
module

public import proofs.«01_k».proof.Proof.Value
public import Idealize.ShloMosaic.Lib.Pipeline.ArrRel

@[expose] public section

set_option maxRecDepth 16384

noncomputable section

namespace Cert.Mla

open Cert.KernelIdeal Cert.KernelIdeal.Gen
open Idealize.ShloMosaic Idealize.ShloMosaic.TcCoe Idealize.SL.Sem

variable {m : (ℓ : Loc nD τ sig) → Buf (Elt Ideal) ℓ} {c : Dev nD} {qr kr : Rows}

/-! ## The array of results -/

/-- The head and the lane of a column of the result. -/
def headOf (l : Fin 512) : Fin 8 := ⟨l.val / 64, by omega⟩
def laneOf (l : Fin 512) : Fin 64 := ⟨l.val % 64, by omega⟩

/-- The result, from the arguments. -/
def outE (m : (ℓ : Loc nD τ sig) → Buf (Elt Ideal) ℓ) (c : Dev nD) (qr kr : Rows) : S2x16384x512.Idx → EReal := fun x =>
  entryOf (fun i => av m c (x 0) i (headOf (x 2)) (laneOf (x 2))) (dotOf qr kr (x 0) (headOf (x 2)) (x 1)) 0

/-- The result does not depend on the number taken off every score. -/
theorem entryOf_shift (v : Fin 16384 → EReal) (s : Fin 16384 → ℝ) (M' : ℝ) : entryOf v s M' = entryOf v s 0 := by
  haveI : Nonempty (Fin 16384) := ⟨⟨0, by norm_num⟩⟩
  unfold entryOf
  refine (softmax_ratio v (fun i => Real.exp (s i * (1 / Real.sqrt 96) - M')) (fun i => Real.exp_pos _) 1 one_pos).symm.trans
    (Eq.trans ?_ (softmax_ratio v (fun i => Real.exp (s i * (1 / Real.sqrt 96) - 0)) (fun i => Real.exp_pos _)
      (Real.exp (-M')) (Real.exp_pos _)))
  have e : ∀ i, 1 * Real.exp (s i * (1 / Real.sqrt 96) - M') = Real.exp (-M') * Real.exp (s i * (1 / Real.sqrt 96) - 0) := fun i => by
    rw [one_mul, ← Real.exp_add]
    refine congrArg Real.exp ?_
    ring
  simp only [e]

theorem out_place (t : Fin cfg0.N) (x : S1x512x128.Idx) (a : Fin 3) :
    ((win0_3.rect t).emb x a : Nat) = win0_3.index t a * win0_3.size a + (x a).val :=
  Pipeline.Window.rect_emb_val win0_3 t x a rfl

theorem flushes : ∀ t : Fin cfg0.N, (cfg0.win 3).flush t = true → t.val % 33 ≠ 0 := by decide +kernel

theorem covers : (cfg0.win 3).Covers := by decide +kernel

theorem out_emb (t : Fin cfg0.N) (ht : t.val % 33 ≠ 0) (x : S1x512x128.Idx) :
    (win0_3.rect t).emb x = (ix3 (bOf t) ⟨512 * (qOld t.val).val + (x 1).val, by
        have h1 : (x 1).val < 512 := (x 1).isLt
        have h2 : (qOld t.val).val < 32 := (qOld t.val).isLt
        omega⟩ ⟨128 * (t.val / 33 % 4) + (x 2).val, by
        have h1 : (x 2).val < 128 := (x 2).isLt
        omega⟩ : S2x16384x512.Idx) := by
  have h0 : (x 0).val < 1 := (x 0).isLt
  have hp := (places t).2.2.2
  funext a
  apply Fin.ext
  refine (out_place t x a).trans ?_
  rw [hp]
  match a with
  | 0 => show t.val / 132 * 1 + (x 0).val = t.val / 132; omega
  | 1 => show (t.val % 33 - 1) * 512 + (x 1).val = 512 * (min (t.val % 33 - 1) 31) + (x 1).val; omega
  | 2 => show (t.val / 33 % 4) * 128 + (x 2).val = 128 * (t.val / 33 % 4) + (x 2).val; omega

/-- What a point writes is the block of the result. -/
theorem block_value (hq : ∀ b n h d, aq m c b n h d = (qr b n h d : EReal)) (hk : ∀ b n h d, ak m c b n h d = (kr b n h d : EReal))
    (t : Fin cfg0.N) (ht : t.val % 33 ≠ 0) (y : S1x512x128.Idx) :
    outV (F := Ideal) (fun y => num (kB m c t) (qB m c t) (vB m c t) (y 0) (qOld t.val) 8 8 (y 1) (y 2)) y
      = outE m c qr kr ((win0_3.rect t).emb y) := by
  rw [out_emb t ht]
  have ey : y = ix3 0 (y 1) (y 2) := (eq_ix3 y).trans (congrArg (fun z : Fin 1 => (ix3 z (y 1) (y 2) : S1x512x128.Idx)) (Subsingleton.elim _ _))
  have hy2 : (y 2).val < 128 := (y 2).isLt
  refine (congrArg _ ey).trans ?_
  unfold outV
  refine (o_entry _ _ (y 1) (y 2)).trans ?_
  have key : ∀ hd : Fin 2, hd.val = (y 2).val / 64 →
      Ideal.div (num (kB m c t) (qB m c t) (vB m c t) hd (qOld t.val) 8 8 ⟨(y 2).val % 64, by omega⟩ (y 1))
        (num (kB m c t) (qB m c t) (vB m c t) hd (qOld t.val) 8 8 64 (y 1)) = outE m c qr kr
          (ix3 (bOf t) ⟨512 * (qOld t.val).val + (y 1).val, by
            have h1 : (y 1).val < 512 := (y 1).isLt
            have h2 : (qOld t.val).val < 32 := (qOld t.val).isLt
            omega⟩ ⟨128 * (t.val / 33 % 4) + (y 2).val, by omega⟩) := by
    intro hd hhd
    refine (ratio_value hq hk t hd (qOld t.val) (y 1) ⟨(y 2).val % 64, by omega⟩ 0).trans ?_
    have eh : hOf t hd = headOf ⟨128 * (t.val / 33 % 4) + (y 2).val, by omega⟩ := Fin.ext (by
      show 2 * (t.val / 33 % 4) + hd.val = (128 * (t.val / 33 % 4) + (y 2).val) / 64; omega)
    have el : (⟨(y 2).val % 64, by omega⟩ : Fin 64) = laneOf ⟨128 * (t.val / 33 % 4) + (y 2).val, by omega⟩ := Fin.ext (by
      show (y 2).val % 64 = (128 * (t.val / 33 % 4) + (y 2).val) % 64; omega)
    rw [eh, el]
    rfl
  by_cases h : (y 2).val < 64
  · rw [if_pos h]
    exact key 0 (by show 0 = _; omega)
  · rw [if_neg h]
    exact key 1 (by show 1 = _; omega)

/-- The system of the run. -/
def sysOf (hq : ∀ b n h d, aq m c b n h d = (qr b n h d : EReal)) (hk : ∀ b n h d, ak m c b n h d = (kr b n h d : EReal)) : Sys m c :=
  sys m c (scores_finite hq hk) (same_blocks m c)

/-- After the run the array of results holds the result. -/
theorem result_array (qr kr : Dev nD → Rows) (hq : ∀ c b n h d, aq m c b n h d = (qr c b n h d : EReal))
    (hk : ∀ c b n h d, ak m c b n h d = (kr c b n h d : EReal)) {r : PUnit × MemSt nD τ sig (Elt Ideal)}
    (h : Pipeline.RDat.FramePost cfg0 (fun c => rdat (sysOf (hq c) (hk c))) (V m) r) (c : Dev nD) :
    r.2.mem ((c.tc : Thread nD τ).loc main_v21) = outE m c (qr c) (kr c) := by
  obtain ⟨after, hL, hA⟩ := Pipeline.RDat.FramePost.exists_exact h c
  refine (hA 3).trans ?_
  refine Pipeline.Dat.arrAt_eq_of_covers _ 3 _ covers fun t hf y => ?_
  have ht := flushes t hf
  obtain ⟨Y, hY, hO⟩ := hL 3 t hf
  exact (congrFun (hO ht) y).trans (block_value (hq c) (hk c) t ht y)

end Cert.Mla
end
-- ==== Proof.Reference.lean ====
module

public import proofs.«01_k».proof.Proof.Gen.ReferenceIdeal
public import proofs.«01_k».proof.Proof.Gen.ReferenceIdeal.Run
public import Idealize.ShloMosaic.Lib.Claim
public import Idealize.ShloMosaic.Lib.Pointwise
public import Idealize.ShloMosaic.Lib.IdealHost

@[expose] public section

set_option maxRecDepth 16384

noncomputable section

namespace Cert.Mla.Reference

open Cert.ReferenceIdeal Cert.ReferenceIdeal.Gen
open Idealize.ShloMosaic

/-! ## The reference's result, by entries -/

variable (q k : FVec Ideal S2x16384x8x96 .f32) (v : FVec Ideal S2x16384x8x64 .f32)

/-- The scaled scores. -/
def score : FVec Ideal S2x8x16384x16384 .f32 :=
  mulf (Host.dotGeneral dot_S2x16384x8x96_S2x16384x8x96_S2x8x16384x16384_3_3_1_1_02_02 none q k)
    (broadcastInDim S2x8x16384x16384 ![] bcast_S_S2x8x16384x16384
      (Host.divf (constant S_ .f32 0x3F800000#32) (Host.sqrt (constant S_ .f32 0x42C00000#32))))

/-- The largest score of each query. -/
def top (s : FVec Ideal S2x8x16384x16384 .f32) : FVec Ideal S2x8x16384 .f32 :=
  maximumf (broadcastInDim S2x8x16384 ![] bcast_S_S2x8x16384 (constant S_ .f32 0xFF800000#32))
    (Host.reduce FloatOps.maximumf s (constant S_ .f32 0xFF800000#32) reducesTo_S2x8x16384x16384_S2x8x16384_d3 h_S_)

/-- One number of a query for all its keys. -/
def spread (x : FVec Ideal S2x8x16384 .f32) : FVec Ideal S2x8x16384x16384 .f32 :=
  broadcastInDim S2x8x16384x16384 ![0, 1, 2, 3] bcast_S2x8x16384x1_S2x8x16384x16384_0_1_2_3
    (broadcastInDim S2x8x16384x1 ![0, 1, 2] bcast_S2x8x16384_S2x8x16384x1_0_1_2 x)

def weight (s : FVec Ideal S2x8x16384x16384 .f32) : FVec Ideal S2x8x16384x16384 .f32 :=
  Host.exp (subf s (spread (top s)))

def total (e : FVec Ideal S2x8x16384x16384 .f32) : FVec Ideal S2x8x16384 .f32 :=
  Host.reduceAdd e (constant S_ .f32 0x00000000#32) reducesTo_S2x8x16384x16384_S2x8x16384_d3 h_S_

def prob (e : FVec Ideal S2x8x16384x16384 .f32) : FVec Ideal S2x8x16384x16384 .f32 :=
  Host.divf e (spread (total e))

def result (p : FVec Ideal S2x8x16384x16384 .f32) : FVec Ideal S2x16384x512 .bf16 :=
  truncf .bf16 (shapeCast _ (transpose S2x16384x8x64 [0, 3, 1, 2]
    (Host.dotGeneral dot_S2x16384x8x64_S2x8x16384x16384_S2x8x64x16384_1_3_3_2_02_01 none v p)
    transposes_S2x8x64x16384_S2x16384x8x64_0_3_1_2) shapeCasts_S2x16384x8x64_S2x16384x512) bitsLt_bf16_f32

theorem f96 : Ideal.ofBits FTy.f32 0x42C00000#32 = ((96 : ℝ) : EReal) := by
  simp [Ideal.ofBits, Ideal.ieee, -EReal.coe_mul]; norm_num

theorem score_entry (b : Fin 2) (h : Fin 8) (n i : Fin 16384) : score q k (ix4 b h n i) =
    (∑ d : Fin 96, q (ix4 b n h d) * k (ix4 b i h d)) * (Ideal.div 1 (Ideal.sqrt (96 : ℝ))) := by
  pointwise [score]
  rw [f96]

/-- The maximum of finite numbers along an axis is finite. -/
theorem reduce_max_finite {s t u : Shape} {a : Fin s.rank} (x : FVec Ideal s .f32) (init : FVec Ideal u .f32) (h' : s.ReducesTo [a] t)
    (h : s.Reduces [a] t) (hu : 0 < u.numel) (j : t.Idx) (hpos : 0 < s.size a) (hi : ∀ y, init y = (⊥ : EReal))
    (hx : ∀ y, ∃ r : ℝ, x y = (r : EReal)) : ∃ r : ℝ, Host.reduce FloatOps.maximumf x init h' hu j = (r : EReal) := by
  show ∃ r : ℝ, Host.reduce (fun p q : EReal => max p q) x init h' hu j = (r : EReal)
  rw [Host.reduce_eq_fold_single (fun p q : EReal => max p q) x init h' h hu j, hi]
  have hne : (Finset.univ : Finset (Fin (s.size a))).Nonempty := ⟨⟨0, hpos⟩, Finset.mem_univ _⟩
  obtain ⟨i, -, e⟩ := Finset.exists_mem_eq_sup Finset.univ hne (x ∘ h.lift j)
  obtain ⟨r, hr⟩ := hx (h.lift j i)
  exact ⟨r, (show Finset.univ.fold max ⊥ (x ∘ h.lift j) = Finset.univ.sup (x ∘ h.lift j) from rfl).trans (e.trans hr)⟩

theorem neg_inf : Ideal.ofBits FTy.f32 0xFF800000#32 = (⊥ : EReal) := by
  simp [Ideal.ofBits, Ideal.ieee]

theorem max_finite {s : Shape} (x z : FVec Ideal s .f32) (hx : ∀ y, x y = (⊥ : EReal)) (y : s.Idx)
    (hz : ∃ r : ℝ, z y = (r : EReal)) : ∃ r : ℝ, maximumf x z y = (r : EReal) := by
  obtain ⟨r, hr⟩ := hz
  refine ⟨r, ?_⟩
  show max (x y) (z y) = _
  rw [hx, hr]
  exact max_eq_right bot_le

theorem reduces_keys : S2x8x16384x16384.Reduces [3] S2x8x16384 := by decide

theorem keys_pos : 0 < S2x8x16384x16384.size 3 := by decide

theorem init_bot (y : S_.Idx) : constant (F := Ideal) S_ .f32 0xFF800000#32 y = (⊥ : EReal) := neg_inf

theorem floor_bot (y : S2x8x16384.Idx) :
    broadcastInDim S2x8x16384 ![] bcast_S_S2x8x16384 (constant (F := Ideal) S_ .f32 0xFF800000#32) y = (⊥ : EReal) := neg_inf

theorem top_finite (s : FVec Ideal S2x8x16384x16384 .f32) (hs : ∀ y, ∃ r : ℝ, s y = (r : EReal)) (y : S2x8x16384.Idx) :
    ∃ r : ℝ, top s y = (r : EReal) := by
  unfold top
  exact max_finite _ _ floor_bot y
    (reduce_max_finite s _ reducesTo_S2x8x16384x16384_S2x8x16384_d3 reduces_keys h_S_ y keys_pos init_bot hs)

theorem weight_entry (s : FVec Ideal S2x8x16384x16384 .f32) (b : Fin 2) (h : Fin 8) (n i : Fin 16384) :
    weight s (ix4 b h n i) = Ideal.exp (s (ix4 b h n i) - top s (ix3 b h n)) := by
  pointwise [weight, spread]

theorem total_entry (s : FVec Ideal S2x8x16384x16384 .f32) (b : Fin 2) (h : Fin 8) (n : Fin 16384) :
    total s (ix3 b h n) = ∑ i : Fin 16384, s (ix4 b h n i) := by
  pointwise [total]

theorem prob_entry (e : FVec Ideal S2x8x16384x16384 .f32) (b : Fin 2) (h : Fin 8) (n i : Fin 16384) :
    prob e (ix4 b h n i) = Ideal.div (e (ix4 b h n i)) (total e (ix3 b h n)) := by
  pointwise [prob, spread]

theorem result_entry (p : FVec Ideal S2x8x16384x16384 .f32) (b : Fin 2) (n : Fin 16384) (l : Fin 512) :
    result v p (ix3 b n l) = ∑ i : Fin 16384, v (ix4 b i ⟨l.val / 64, by omega⟩ ⟨l.val % 64, by omega⟩)
      * p (ix4 b ⟨l.val / 64, by omega⟩ n i) := by
  pointwise [result]

end Cert.Mla.Reference
end
-- ==== Proof.Against.lean ====
module

public import proofs.«01_k».proof.Proof.Output
public import proofs.«01_k».proof.Proof.Reference
public import proofs.«01_k».proof.Proof.Gen.Pre_finite

@[expose] public section

set_option maxRecDepth 16384

noncomputable section

namespace Cert.Mla

open Idealize.ShloMosaic Idealize.ShloMosaic.TcCoe Idealize.SL.Sem

/-! ## The reference's result against the kernel's -/

open Cert.ReferenceIdeal in
/-- The reference's scores of finite queries and keys. -/
theorem reference_score (q k : FVec Ideal S2x16384x8x96 .f32) (qr kr : Rows) (hq : ∀ b n h d, q (ix4 b n h d) = (qr b n h d : EReal))
    (hk : ∀ b n h d, k (ix4 b n h d) = (kr b n h d : EReal)) (b : Fin 2) (h : Fin 8) (n i : Fin 16384) :
    Reference.score q k (ix4 b h n i) = ((dotOf qr kr b h n i * (1 / Real.sqrt 96) : ℝ) : EReal) := by
  rw [Reference.score_entry, reference_scale]
  have e : ∑ d : Fin 96, q (ix4 b n h d) * k (ix4 b i h d) = ((dotOf qr kr b h n i : ℝ) : EReal) := by
    unfold dotOf
    rw [coe_sum]
    exact Finset.sum_congr rfl fun d _ => by rw [hq, hk, ← EReal.coe_mul]
  rw [e, ← EReal.coe_mul]

open Cert.ReferenceIdeal in
/-- The reference's result at an entry. -/
theorem reference_value (q k : FVec Ideal S2x16384x8x96 .f32) (v : FVec Ideal S2x16384x8x64 .f32) (qr kr : Rows)
    (hq : ∀ b n h d, q (ix4 b n h d) = (qr b n h d : EReal)) (hk : ∀ b n h d, k (ix4 b n h d) = (kr b n h d : EReal))
    (b : Fin 2) (n : Fin 16384) (l : Fin 512) :
    Reference.result v (Reference.prob (Reference.weight (Reference.score q k))) (ix3 b n l)
      = entryOf (fun i => v (ix4 b i (headOf l) (laneOf l))) (dotOf qr kr b (headOf l) n) 0 := by
  have hs : ∀ y, ∃ r : ℝ, Reference.score q k y = (r : EReal) := fun y =>
    ⟨_, (congrArg _ (eq_ix4 y)).trans (reference_score q k qr kr hq hk (y 0) (y 1) (y 2) (y 3))⟩
  obtain ⟨M, hM⟩ := Reference.top_finite (Reference.score q k) hs (ix3 b (headOf l) n)
  rw [← entryOf_shift _ _ M, Reference.result_entry]
  unfold entryOf
  have e : ∀ i, Reference.weight (Reference.score q k) (ix4 b (headOf l) n i)
      = ((Real.exp (dotOf qr kr b (headOf l) n i * (1 / Real.sqrt 96) - M) : ℝ) : EReal) := fun i => by
    rw [Reference.weight_entry, hM, reference_score q k qr kr hq hk, ← EReal.coe_sub, Ideal.exp_coe]
  refine Finset.sum_congr rfl fun i _ => ?_
  show v (ix4 b i (headOf l) (laneOf l)) * Reference.prob _ (ix4 b (headOf l) n i) = _
  rw [Reference.prob_entry, Reference.total_entry, e]
  refine congrArg (fun z => v (ix4 b i (headOf l) (laneOf l)) * Ideal.div _ z) ?_
  exact Finset.sum_congr rfl fun i _ => e i

/-- A number of finite absolute value is a real number. -/
theorem real_of_abs {x : EReal} (h : max x (-x) < ⊤) : ∃ r : ℝ, x = (r : EReal) := by
  refine ⟨x.toReal, (EReal.coe_toReal ?_ ?_).symm⟩
  · rintro rfl; simp at h
  · rintro rfl; simp at h

theorem inf_bits : Ideal.ofBits FTy.f32 0x7F800000#32 = (⊤ : EReal) := by
  simp [Ideal.ofBits, Ideal.ieee]

theorem both_true (p q : Prop) [Decidable p] [Decidable q]
    (h : IntOp.andi (BitVec.ofBool (decide p)) (BitVec.ofBool (decide q)) = 1#1) : p ∧ q := by
  by_cases hp : p <;> by_cases hq : q
  · exact ⟨hp, hq⟩
  all_goals (simp only [hp, hq, decide_true, decide_false] at h; exact absurd h (by decide))

open Cert.Pre_finite in
/-- The precondition, by entries. -/
theorem finite_entries (q k : FVec Ideal S2x16384x8x96 .f32) (v : FVec Ideal S2x16384x8x64 .f32)
    (h : Cert.Pre_finite.fn (F := Ideal) q k v = fun _ => 1#1) (y : S2x16384x8x96.Idx) :
    (∃ r : ℝ, q y = (r : EReal)) ∧ ∃ r : ℝ, k y = (r : EReal) := by
  have hy := congrFun h y
  pointwise [Cert.Pre_finite.fn] at hy
  rw [inf_bits] at hy
  have h1 := both_true _ _ hy
  exact ⟨real_of_abs h1.1, real_of_abs h1.2⟩

end Cert.Mla
end
-- ==== Proof.FfnReference.lean ====
module

public import proofs.«01_k».proof.Proof.Gen.Reference2Ideal
public import proofs.«01_k».proof.Proof.Gen.Reference2Ideal.Run
public import Idealize.ShloMosaic.Lib.Claim
public import Idealize.ShloMosaic.Lib.Pointwise
public import Idealize.ShloMosaic.Lib.IdealHost
public import Idealize.ShloMosaic.Lib.KernelVsHost

@[expose] public section

set_option maxRecDepth 16384

noncomputable section

namespace Cert.Ffn

open Idealize.ShloMosaic

/-! ## The layer on plain numbers -/

/-- One row normalised by its root mean square, times the gain. -/
def rmsf (x g : Fin 1024 → EReal) (d : Fin 1024) : EReal :=
  x d * Ideal.rsqrt (Ideal.div (∑ e : Fin 1024, x e * x e) (Ideal.ofBits .f32 0x44800000#32) + Ideal.ofBits .f32 0x358637BD#32) * g d

/-- The hyperbolic-tangent form of the Gaussian error linear unit. -/
def gelu (x : EReal) : EReal :=
  Ideal.ofBits .f32 0x3F000000#32 * x
    * (1 + Ideal.tanh (Ideal.ofBits .f32 0x3F4C422A#32 * (x + Ideal.ofBits .f32 0x3D372713#32 * (x * x * x))))

namespace Reference

open Cert.Reference2Ideal Cert.Reference2Ideal.Gen

variable (x : FVec Ideal S2x16384x1024 .f32) (g : FVec Ideal S1024 .f32)

def scale : FVec Ideal S2x16384x1 .f32 :=
  Host.rsqrt (addf (Host.divf (broadcastInDim S2x16384x1 ![0, 1] bcast_S2x16384_S2x16384x1_0_1
      (Host.reduceAdd (mulf x x) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32)))

def normed : FVec Ideal S2x16384x1024 .f32 :=
  mulf (mulf x (broadcastInDim S2x16384x1024 ![0, 1, 2] bcast_S2x16384x1_S2x16384x1024_0_1_2 (scale x)))
    (broadcastInDim S2x16384x1024 ![0, 1, 2] bcast_S1x1x1024_S2x16384x1024_0_1_2
      (broadcastInDim S1x1x1024 ![2] bcast_S1024_S1x1x1024_2 g))

def up (w : FVec Ideal S1024x5632 .f32) : FVec Ideal S2x16384x5632 .f32 :=
  Host.dotGeneral dot_S2x16384x1024_S1024x5632_S2x16384x5632_2_0_01_1_n_n none x w

def padded (u : FVec Ideal S2x16384x5632 .f32) : FVec Ideal S2x16386x5632 .f32 :=
  pad S2x16386x5632 ![0, 1, 0] ![0, 1, 0] ![0, 0, 0] u (sitofp .f32 (constantI S_ 32 0#32))
    pads_S2x16384x5632_S2x16386x5632_000_110_000 h_S_

def row (v : FVec Ideal S5632 .f32) : FVec Ideal S2x16384x5632 .f32 :=
  broadcastInDim S2x16384x5632 ![0, 1, 2] bcast_S1x1x5632_S2x16384x5632_0_1_2
    (broadcastInDim S1x1x5632 ![2] bcast_S5632_S1x1x5632_2 v)

def conv (p : FVec Ideal S2x16386x5632 .f32) (cw : FVec Ideal S3x5632 .f32) (cb : FVec Ideal S5632 .f32) : FVec Ideal S2x16384x5632 .f32 :=
  addf (addf (addf (row cb)
    (mulf (extractStridedSlice S2x16384x5632 ![0, 0, 0] p slices_S2x16386x5632_S2x16384x5632_0_0_0)
      (row (shapeCast _ (extractStridedSlice S1x5632 ![0, 0] cw slices_S3x5632_S1x5632_0_0) shapeCasts_S1x5632_S5632))))
    (mulf (extractStridedSlice S2x16384x5632 ![0, 1, 0] p slices_S2x16386x5632_S2x16384x5632_0_1_0)
      (row (shapeCast _ (extractStridedSlice S1x5632 ![1, 0] cw slices_S3x5632_S1x5632_1_0) shapeCasts_S1x5632_S5632))))
    (mulf (extractStridedSlice S2x16384x5632 ![0, 2, 0] p slices_S2x16386x5632_S2x16384x5632_0_2_0)
      (row (shapeCast _ (extractStridedSlice S1x5632 ![2, 0] cw slices_S3x5632_S1x5632_2_0) shapeCasts_S1x5632_S5632)))

def lower (c : FVec Ideal S2x16384x5632 .f32) : FVec Ideal S2x16384x2816 .f32 :=
  extractStridedSlice S2x16384x2816 ![0, 0, 0] c slices_S2x16384x5632_S2x16384x2816_0_0_0

def upper (c : FVec Ideal S2x16384x5632 .f32) : FVec Ideal S2x16384x2816 .f32 :=
  extractStridedSlice S2x16384x2816 ![0, 0, 2816] c slices_S2x16384x5632_S2x16384x2816_0_0_2816

def word (w : BitVec 32) : FVec Ideal S2x16384x2816 .f32 :=
  broadcastInDim S2x16384x2816 ![] bcast_S_S2x16384x2816 (constant S_ .f32 w)

def act (a b : FVec Ideal S2x16384x2816 .f32) : FVec Ideal S2x16384x2816 .f32 :=
  mulf (mulf a (mulf (word 0x3F000000#32) (addf (word 0x3F800000#32) (Host.tanh (mulf (word 0x3F4C422A#32)
    (addf a (mulf (word 0x3D372713#32) (mulf (mulf a a) a)))))))) b

def down (a : FVec Ideal S2x16384x2816 .f32) (w : FVec Ideal S2816x1024 .f32) : FVec Ideal S2x16384x1024 .f32 :=
  Host.dotGeneral dot_S2x16384x2816_S2816x1024_S2x16384x1024_2_0_01_1_n_n none a w

def hidden (c : FVec Ideal S2x16384x5632 .f32) : FVec Ideal S2x16384x2816 .f32 := act (lower c) (upper c)

def result (wu : FVec Ideal S1024x5632 .f32) (cw : FVec Ideal S3x5632 .f32) (cb : FVec Ideal S5632 .f32)
    (wd : FVec Ideal S2816x1024 .f32) (g' : FVec Ideal S1024 .f32) : FVec Ideal S2x16384x1024 .f32 :=
  addf x (normed (down (hidden (conv (padded (up (normed x g) wu)) cw cb)) wd) g')

theorem normed_entry (b : Fin 2) (n : Fin 16384) (d : Fin 1024) :
    normed x g (ix3 b n d) = rmsf (fun e => x (ix3 b n e)) (fun e => g (ix1 e)) d := by
  unfold rmsf
  pointwise [normed, scale]

theorem up_entry (w : FVec Ideal S1024x5632 .f32) (b : Fin 2) (n : Fin 16384) (j : Fin 5632) :
    up x w (ix3 b n j) = ∑ d : Fin 1024, x (ix3 b n d) * w (ix2 d j) := by
  pointwise [up]

theorem padded_inside (u : FVec Ideal S2x16384x5632 .f32) (b : Fin 2) (n : Fin 16386) (j : Fin 5632) (k : Fin 16384)
    (h : n.val = k.val + 1) : padded u (ix3 b n j) = u (ix3 b k j) := by
  unfold padded
  refine pad_apply_of_inside _ _ _ u _ _ h_S_ _ (ix3 b k j) fun a => ?_
  match a with
  | 0 => show b.val = 0 + b.val * (0 + 1); omega
  | 1 => show n.val = 1 + k.val * (0 + 1); omega
  | 2 => show j.val = 0 + j.val * (0 + 1); omega

theorem padded_outside (u : FVec Ideal S2x16384x5632 .f32) (b : Fin 2) (n : Fin 16386) (j : Fin 5632)
    (h : n.val = 0 ∨ n.val = 16385) : padded u (ix3 b n j) = 0 := by
  unfold padded
  refine (pad_apply_of_not_inside _ _ _ u _ _ h_S_ _ (1 : Fin 3) ?_).trans ?_
  · intro k
    have h1 : 1 ≤ n.val := k.1
    have h2 : (n.val - 1) / (0 + 1) < 16384 := k.2.2
    omega
  · show (((0#32 : BitVec 32).toInt : ℝ) : EReal) = 0
    simp

theorem conv_entry (p : FVec Ideal S2x16386x5632 .f32) (cw : FVec Ideal S3x5632 .f32) (cb : FVec Ideal S5632 .f32)
    (b : Fin 2) (n : Fin 16384) (j : Fin 5632) :
    conv p cw cb (ix3 b n j) = cb (ix1 j) + p (ix3 b ⟨n.val, by omega⟩ j) * cw (ix2 (0 : Fin 3) j)
      + p (ix3 b ⟨1 + n.val, by omega⟩ j) * cw (ix2 (1 : Fin 3) j)
      + p (ix3 b ⟨2 + n.val, by omega⟩ j) * cw (ix2 (2 : Fin 3) j) := by
  pointwise [conv, row]

theorem act_entry (a b : FVec Ideal S2x16384x2816 .f32) (y : S2x16384x2816.Idx) :
    act a b y = a y * (Ideal.ofBits .f32 0x3F000000#32 * (Ideal.ofBits .f32 0x3F800000#32 + Ideal.tanh
      (Ideal.ofBits .f32 0x3F4C422A#32 * (a y + Ideal.ofBits .f32 0x3D372713#32 * (a y * a y * a y))))) * b y := rfl

theorem one : Ideal.ofBits FTy.f32 0x3F800000#32 = 1 := by
  simp [Ideal.ofBits, Ideal.ieee, -EReal.coe_mul]; norm_num

theorem hidden_entry (c : FVec Ideal S2x16384x5632 .f32) (b : Fin 2) (n : Fin 16384) (j : Fin 2816) :
    hidden c (ix3 b n j) = gelu (c (ix3 b n ⟨j.val, by omega⟩)) * c (ix3 b n ⟨2816 + j.val, by omega⟩) := by
  have h1 : lower c (ix3 b n j) = c (ix3 b n ⟨j.val, by omega⟩) := by pointwise [lower]
  have h2 : upper c (ix3 b n j) = c (ix3 b n ⟨2816 + j.val, by omega⟩) := by pointwise [upper]
  unfold hidden
  rw [act_entry, h1, h2, one]
  unfold gelu
  rw [← mul_assoc, mul_comm (c _) (Ideal.ofBits .f32 0x3F000000#32)]

theorem down_entry (a : FVec Ideal S2x16384x2816 .f32) (w : FVec Ideal S2816x1024 .f32) (b : Fin 2) (n : Fin 16384) (e : Fin 1024) :
    down a w (ix3 b n e) = ∑ j : Fin 2816, a (ix3 b n j) * w (ix2 j e) := by
  pointwise [down]

theorem result_term (m : (ℓ : Loc nD τ sig) → Buf (Elt Ideal) ℓ) (c : Dev nD) :
    Value.res_main_v68 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Value.res_main_v68
  rfl

end Reference
end Cert.Ffn
end
-- ==== Proof.FfnLayer.lean ====
module

public import proofs.«01_k».proof.Proof.FfnReference

@[expose] public section

set_option maxRecDepth 16384

noncomputable section

namespace Cert.Ffn

open Idealize.ShloMosaic

/-! ## The layer, entry by entry -/

/-- The layer's arguments, by entries. -/
structure Args where
  X : Fin 2 → Fin 16384 → Fin 1024 → EReal
  G : Fin 1024 → EReal
  WU : Fin 1024 → Fin 5632 → EReal
  CW : Fin 3 → Fin 5632 → EReal
  CB : Fin 5632 → EReal
  WD : Fin 2816 → Fin 1024 → EReal
  GP : Fin 1024 → EReal

namespace Args

variable (A : Args)

/-- The rows with one row of zeros before the first and one after the last. -/
def rowAt (b : Fin 2) (k : ℕ) (d : Fin 1024) : EReal :=
  if h : 1 ≤ k ∧ k ≤ 16384 then A.X b ⟨k - 1, by omega⟩ d else 0

def upAt (b : Fin 2) (k : ℕ) (j : Fin 5632) : EReal := ∑ d : Fin 1024, rmsf (A.rowAt b k) A.G d * A.WU d j

def convAt (b : Fin 2) (n : ℕ) (j : Fin 5632) : EReal :=
  A.CB j + A.upAt b n j * A.CW 0 j + A.upAt b (1 + n) j * A.CW 1 j + A.upAt b (2 + n) j * A.CW 2 j

def hiddenAt (b : Fin 2) (n : ℕ) (j : Fin 2816) : EReal :=
  gelu (A.convAt b n ⟨j.val, by omega⟩) * A.convAt b n ⟨2816 + j.val, by omega⟩

def downAt (b : Fin 2) (n : ℕ) (e : Fin 1024) : EReal := ∑ j : Fin 2816, A.hiddenAt b n j * A.WD j e

def outAt (b : Fin 2) (n : Fin 16384) (e : Fin 1024) : EReal := A.X b n e + rmsf (A.downAt b n.val) A.GP e

theorem rowAt_inside (b : Fin 2) (n : Fin 16384) (k : ℕ) (h : k = n.val + 1) (d : Fin 1024) : A.rowAt b k d = A.X b n d := by
  subst h
  unfold rowAt
  rw [dif_pos ⟨by omega, by omega⟩]
  rfl

theorem rowAt_outside (b : Fin 2) (k : ℕ) (h : k = 0 ∨ k = 16385) (d : Fin 1024) : A.rowAt b k d = 0 := by
  unfold rowAt
  rw [dif_neg (by omega)]

theorem upAt_outside (b : Fin 2) (k : ℕ) (h : k = 0 ∨ k = 16385) (j : Fin 5632) : A.upAt b k j = 0 := by
  unfold upAt rmsf
  refine Finset.sum_eq_zero fun d _ => ?_
  rw [A.rowAt_outside b k h d, zero_mul, zero_mul, zero_mul]

end Args

open Cert.Reference2Ideal

/-- The arguments of the reference, by entries. -/
def argsOf (x : FVec Ideal S2x16384x1024 .f32) (g : FVec Ideal S1024 .f32) (wu : FVec Ideal S1024x5632 .f32) (cw : FVec Ideal S3x5632 .f32)
    (cb : FVec Ideal S5632 .f32) (wd : FVec Ideal S2816x1024 .f32) (g' : FVec Ideal S1024 .f32) : Args where
  X b n d := x (ix3 b n d)
  G d := g (ix1 d)
  WU d j := wu (ix2 d j)
  CW k j := cw (ix2 k j)
  CB j := cb (ix1 j)
  WD j e := wd (ix2 j e)
  GP e := g' (ix1 e)

variable (x : FVec Ideal S2x16384x1024 .f32) (g : FVec Ideal S1024 .f32) (wu : FVec Ideal S1024x5632 .f32) (cw : FVec Ideal S3x5632 .f32)
  (cb : FVec Ideal S5632 .f32) (wd : FVec Ideal S2816x1024 .f32) (g' : FVec Ideal S1024 .f32)

theorem reference_padded (b : Fin 2) (k : Fin 16386) (j : Fin 5632) :
    Reference.padded (Reference.up (Reference.normed x g) wu) (ix3 b k j) = (argsOf x g wu cw cb wd g').upAt b k.val j := by
  by_cases h : k.val = 0 ∨ k.val = 16385
  · rw [Reference.padded_outside _ b k j h, Args.upAt_outside _ b k.val h]
  · rw [Reference.padded_inside _ b k j ⟨k.val - 1, by omega⟩ (by show k.val = k.val - 1 + 1; omega), Reference.up_entry]
    unfold Args.upAt
    refine Finset.sum_congr rfl fun d _ => ?_
    rw [Reference.normed_entry]
    have e : (argsOf x g wu cw cb wd g').rowAt b k.val = fun d => x (ix3 b ⟨k.val - 1, by omega⟩ d) := funext fun d =>
      Args.rowAt_inside _ b ⟨k.val - 1, by omega⟩ k.val (by show k.val = k.val - 1 + 1; omega) d
    rw [e]
    rfl

theorem reference_conv (b : Fin 2) (n : Fin 16384) (j : Fin 5632) :
    Reference.conv (Reference.padded (Reference.up (Reference.normed x g) wu)) cw cb (ix3 b n j)
      = (argsOf x g wu cw cb wd g').convAt b n.val j := by
  rw [Reference.conv_entry, reference_padded x g wu cw cb wd g', reference_padded x g wu cw cb wd g', reference_padded x g wu cw cb wd g']
  rfl

theorem reference_value (b : Fin 2) (n : Fin 16384) (e : Fin 1024) :
    Reference.result x g wu cw cb wd g' (ix3 b n e) = (argsOf x g wu cw cb wd g').outAt b n e := by
  have hd : (fun e => Reference.down (Reference.hidden (Reference.conv (Reference.padded (Reference.up (Reference.normed x g) wu)) cw cb)) wd (ix3 b n e))
      = (argsOf x g wu cw cb wd g').downAt b n.val := by
    funext e
    rw [Reference.down_entry]
    refine Finset.sum_congr rfl fun j _ => ?_
    rw [Reference.hidden_entry, reference_conv x g wu cw cb wd g', reference_conv x g wu cw cb wd g']
    rfl
  show x (ix3 b n e) + Reference.normed _ g' (ix3 b n e) = _
  rw [Reference.normed_entry, hd]
  rfl

end Cert.Ffn
end
-- ==== Proof.FfnBlocks.lean ====
module

public import proofs.«01_k».proof.Proof.FfnLayer
public import proofs.«01_k».proof.Proof.Gen.Kernel2Ideal.Value
public import Idealize.ShloMosaic.Lib.Pipeline.ValueKit

@[expose] public section

set_option maxRecDepth 16384

noncomputable section

namespace Cert.Ffn

open Cert.Kernel2Ideal Cert.Kernel2Ideal.Gen
open Idealize.ShloMosaic Idealize.ShloMosaic.TcCoe

variable (m : (ℓ : Loc nD τ sig) → Buf (Elt Ideal) ℓ) (c : Dev nD)

/-! ## The blocks of the launch -/

def xArr : S2x16384x1024.Idx → EReal := V m c main_arg0
def gArr : S1x1024.Idx → EReal := V m c main_v0
def uArr : S1024x5632.Idx → EReal := V m c main_v1
def wArr : S3x5632.Idx → EReal := V m c main_arg3
def bArr : S1x5632.Idx → EReal := V m c main_v2
def dArr : S2816x1024.Idx → EReal := V m c main_v3
def pArr : S1x1024.Idx → EReal := V m c main_v4

/-- The layer's arguments as the launch finds them. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6))

theorem x_array (b : Fin 2) (n : Fin 16384) (d : Fin 1024) : xArr m c (ix3 b n d) = (args m c).X b n d :=
  congrFun (V_main_arg0 m c) (ix3 b n d)

theorem w_array (k : Fin 3) (j : Fin 5632) : wArr m c (ix2 k j) = (args m c).CW k j :=
  congrFun (V_main_arg3 m c) (ix2 k j)

theorem g_term : gArr m c = shapeCast S1x1024 (m ((c : Thread nD τ).loc main_arg1) : S1024.Idx → EReal) shapeCasts_S1024_S1x1024 := by
  unfold gArr
  show StableHlo.after hostOps0 (fun b => m (c, b)) main_v0 = _
  after_results <;> rfl

theorem u_term : uArr m c = (m ((c : Thread nD τ).loc main_arg2) : S1024x5632.Idx → EReal) := by
  unfold uArr
  show StableHlo.after hostOps0 (fun b => m (c, b)) main_v1 = _
  after_results <;> rfl

theorem b_term : bArr m c = shapeCast S1x5632 (m ((c : Thread nD τ).loc main_arg4) : S5632.Idx → EReal) shapeCasts_S5632_S1x5632 := by
  unfold bArr
  show StableHlo.after hostOps0 (fun b => m (c, b)) main_v2 = _
  after_results <;> rfl

theorem d_term : dArr m c = (m ((c : Thread nD τ).loc main_arg5) : S2816x1024.Idx → EReal) := by
  unfold dArr
  show StableHlo.after hostOps0 (fun b => m (c, b)) main_v3 = _
  after_results <;> rfl

theorem p_term : pArr m c = shapeCast S1x1024 (m ((c : Thread nD τ).loc main_arg6) : S1024.Idx → EReal) shapeCasts_S1024_S1x1024 := by
  unfold pArr
  show StableHlo.after hostOps0 (fun b => m (c, b)) main_v4 = _
  after_results <;> rfl

theorem row_of (f : (⟨1, ![1024]⟩ : Shape).Idx → EReal) (h : (⟨1, ![1024]⟩ : Shape).ShapeCasts S1x1024) (d : Fin 1024) :
    shapeCast S1x1024 f h (ix2 (0 : Fin 1) d) = f (ix1 d) := by
  pointwise []

theorem wide_row_of (f : (⟨1, ![5632]⟩ : Shape).Idx → EReal) (h : (⟨1, ![5632]⟩ : Shape).ShapeCasts S1x5632) (d : Fin 5632) :
    shapeCast S1x5632 f h (ix2 (0 : Fin 1) d) = f (ix1 d) := by
  pointwise []

theorem g_array (d : Fin 1024) : gArr m c (ix2 (0 : Fin 1) d) = (args m c).G d := by
  rw [g_term]
  exact row_of _ _ d

theorem u_array (d : Fin 1024) (j : Fin 5632) : uArr m c (ix2 d j) = (args m c).WU d j := by
  rw [u_term]
  rfl

theorem b_array (j : Fin 5632) : bArr m c (ix2 (0 : Fin 1) j) = (args m c).CB j := by
  rw [b_term]
  exact wide_row_of _ _ j

theorem d_array (j : Fin 2816) (e : Fin 1024) : dArr m c (ix2 j e) = (args m c).WD j e := by
  rw [d_term]
  rfl

theorem p_array (e : Fin 1024) : pArr m c (ix2 (0 : Fin 1) e) = (args m c).GP e := by
  rw [p_term]
  exact row_of _ _ e

theorem places : ∀ t : Fin cfg0.N, win0_0.index t = ![t.val / 32, t.val % 32, 0]
    ∧ win0_1.index t = ![t.val / 32, 64 * (t.val % 32) - 1, 0] ∧ win0_2.index t = ![t.val / 32, min (64 * (t.val % 32) + 64) 2047, 0]
    ∧ win0_9.index t = ![t.val / 32, t.val % 32, 0] ∧ (grid0.coords t 1).val = t.val % 32 := by
  decide +kernel

theorem whole_places : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] := by
  decide +kernel

def bOf (t : Fin cfg0.N) : Fin 2 := ⟨t.val / 32, by have h : t.val < 64 := t.isLt; omega⟩

theorem zero_mul_add (s n : ℕ) : 0 * s + n = n := by rw [Nat.zero_mul, Nat.zero_add]

theorem x_place (t : Fin cfg0.N) (x : S1x512x1024.Idx) (a : Fin 3) :
    ((win0_0.rect t).emb x a : Nat) = win0_0.index t a * win0_0.size a + (x a).val :=
  Pipeline.Window.rect_emb_val win0_0 t x a rfl

theorem x_read (t : Fin cfg0.N) (X : S2x16384x1024.Idx → EReal) (x : S1x512x1024.Idx) :
    ((win0_0.blk t).view.read (Elt Ideal) X) x = X ((win0_0.rect t).emb x) := rfl

theorem x_emb (t : Fin cfg0.N) (p : Fin 512) (d : Fin 1024) :
    (win0_0.rect t).emb (ix3 (0 : Fin 1) p d : S1x512x1024.Idx) = (ix3 (bOf t) ⟨512 * (t.val % 32) + p.val, by omega⟩ d : S2x16384x1024.Idx) := by
  have hp := (places t).1
  funext a
  apply Fin.ext
  refine (x_place t _ a).trans ?_
  rw [hp]
  match a with
  | 0 => show t.val / 32 * 1 + 0 = t.val / 32; omega
  | 1 => show t.val % 32 * 512 + p.val = 512 * (t.val % 32) + p.val; omega
  | 2 => exact zero_mul_add _ _

theorem x_block (t : Fin cfg0.N) (p : Fin 512) (d : Fin 1024) :
    (iblk m c 0 t : S1x512x1024.Idx → EReal) (ix3 (0 : Fin 1) p d) = (args m c).X (bOf t) ⟨512 * (t.val % 32) + p.val, by omega⟩ d := by
  rw [← x_array, ← x_emb]
  unfold iblk xArr
  exact x_read t (V m c main_arg0) _

theorem prev_place (t : Fin cfg0.N) (x : S1x8x1024.Idx) (a : Fin 3) :
    ((win0_1.rect t).emb x a : Nat) = win0_1.index t a * win0_1.size a + (x a).val :=
  Pipeline.Window.rect_emb_val win0_1 t x a rfl

theorem prev_read (t : Fin cfg0.N) (X : S2x16384x1024.Idx → EReal) (x : S1x8x1024.Idx) :
    ((win0_1.blk t).view.read (Elt Ideal) X) x = X ((win0_1.rect t).emb x) := rfl

theorem prev_emb (t : Fin cfg0.N) (ht : t.val % 32 ≠ 0) (d : Fin 1024) :
    (win0_1.rect t).emb (ix3 (0 : Fin 1) (7 : Fin 8) d : S1x8x1024.Idx) = (ix3 (bOf t) ⟨512 * (t.val % 32) - 1, by omega⟩ d : S2x16384x1024.Idx) := by
  have hp := (places t).2.1
  funext a
  apply Fin.ext
  refine (prev_place t _ a).trans ?_
  rw [hp]
  match a with
  | 0 => show t.val / 32 * 1 + 0 = t.val / 32; omega
  | 1 => show (64 * (t.val % 32) - 1) * 8 + 7 = 512 * (t.val % 32) - 1; omega
  | 2 => exact zero_mul_add _ _

theorem prev_block (t : Fin cfg0.N) (ht : t.val % 32 ≠ 0) (d : Fin 1024) :
    (iblk m c 1 t : S1x8x1024.Idx → EReal) (ix3 (0 : Fin 1) (7 : Fin 8) d) = (args m c).X (bOf t) ⟨512 * (t.val % 32) - 1, by omega⟩ d := by
  rw [← x_array, ← prev_emb t ht]
  unfold iblk xArr
  exact prev_read t (V m c main_arg0) _

theorem next_place (t : Fin cfg0.N) (x : S1x8x1024.Idx) (a : Fin 3) :
    ((win0_2.rect t).emb x a : Nat) = win0_2.index t a * win0_2.size a + (x a).val :=
  Pipeline.Window.rect_emb_val win0_2 t x a rfl

theorem next_read (t : Fin cfg0.N) (X : S2x16384x1024.Idx → EReal) (x : S1x8x1024.Idx) :
    ((win0_2.blk t).view.read (Elt Ideal) X) x = X ((win0_2.rect t).emb x) := rfl

theorem next_emb (t : Fin cfg0.N) (ht : t.val % 32 ≠ 31) (d : Fin 1024) :
    (win0_2.rect t).emb (ix3 (0 : Fin 1) (0 : Fin 8) d : S1x8x1024.Idx) = (ix3 (bOf t) ⟨512 * (t.val % 32) + 512, by omega⟩ d : S2x16384x1024.Idx) := by
  have hp := (places t).2.2.1
  funext a
  apply Fin.ext
  refine (next_place t _ a).trans ?_
  rw [hp]
  match a with
  | 0 => show t.val / 32 * 1 + 0 = t.val / 32; omega
  | 1 => show min (64 * (t.val % 32) + 64) 2047 * 8 + 0 = 512 * (t.val % 32) + 512; omega
  | 2 => exact zero_mul_add _ _

theorem next_block (t : Fin cfg0.N) (ht : t.val % 32 ≠ 31) (d : Fin 1024) :
    (iblk m c 2 t : S1x8x1024.Idx → EReal) (ix3 (0 : Fin 1) (0 : Fin 8) d) = (args m c).X (bOf t) ⟨512 * (t.val % 32) + 512, by omega⟩ d := by
  rw [← x_array, ← next_emb t ht]
  unfold iblk xArr
  exact next_read t (V m c main_arg0) _

theorem g_place (t : Fin cfg0.N) (x : S1x1024.Idx) (a : Fin 2) :
    ((win0_3.rect t).emb x a : Nat) = win0_3.index t a * win0_3.size a + (x a).val :=
  Pipeline.Window.rect_emb_val win0_3 t x a rfl

theorem g_emb (t : Fin cfg0.N) (x : S1x1024.Idx) : (win0_3.rect t).emb x = x := by
  funext a
  apply Fin.ext
  refine (g_place t x a).trans ?_
  rw [(whole_places t).1]
  match a with
  | 0 => exact zero_mul_add _ _
  | 1 => exact zero_mul_add _ _

theorem g_read (t : Fin cfg0.N) (X : S1x1024.Idx → EReal) (x : S1x1024.Idx) :
    ((win0_3.blk t).view.read (Elt Ideal) X) x = X ((win0_3.rect t).emb x) := rfl

theorem g_block (t : Fin cfg0.N) (d : Fin 1024) : (iblk m c 3 t : S1x1024.Idx → EReal) (ix2 (0 : Fin 1) d) = (args m c).G d := by
  rw [← g_array]
  unfold iblk gArr
  exact (g_read t (V m c main_v0) _).trans (congrArg (V m c main_v0 : S1x1024.Idx → EReal) (g_emb t _))

theorem u_place (t : Fin cfg0.N) (x : S1024x5632.Idx) (a : Fin 2) :
    ((win0_4.rect t).emb x a : Nat) = win0_4.index t a * win0_4.size a + (x a).val :=
  Pipeline.Window.rect_emb_val win0_4 t x a rfl

theorem u_emb (t : Fin cfg0.N) (x : S1024x5632.Idx) : (win0_4.rect t).emb x = x := by
  funext a
  apply Fin.ext
  refine (u_place t x a).trans ?_
  rw [(whole_places t).2.1]
  match a with
  | 0 => exact zero_mul_add _ _
  | 1 => exact zero_mul_add _ _

theorem u_read (t : Fin cfg0.N) (X : S1024x5632.Idx → EReal) (x : S1024x5632.Idx) :
    ((win0_4.blk t).view.read (Elt Ideal) X) x = X ((win0_4.rect t).emb x) := rfl

theorem u_block (t : Fin cfg0.N) (d : Fin 1024) (j : Fin 5632) : (iblk m c 4 t : S1024x5632.Idx → EReal) (ix2 d j) = (args m c).WU d j := by
  rw [← u_array]
  unfold iblk uArr
  exact (u_read t (V m c main_v1) _).trans (congrArg (V m c main_v1 : S1024x5632.Idx → EReal) (u_emb t _))

theorem w_place (t : Fin cfg0.N) (x : S3x5632.Idx) (a : Fin 2) :
    ((win0_5.rect t).emb x a : Nat) = win0_5.index t a * win0_5.size a + (x a).val :=
  Pipeline.Window.rect_emb_val win0_5 t x a rfl

theorem w_emb (t : Fin cfg0.N) (x : S3x5632.Idx) : (win0_5.rect t).emb x = x := by
  funext a
  apply Fin.ext
  refine (w_place t x a).trans ?_
  rw [(whole_places t).2.2.1]
  match a with
  | 0 => exact zero_mul_add _ _
  | 1 => exact zero_mul_add _ _

theorem w_read (t : Fin cfg0.N) (X : S3x5632.Idx → EReal) (x : S3x5632.Idx) :
    ((win0_5.blk t).view.read (Elt Ideal) X) x = X ((win0_5.rect t).emb x) := rfl

theorem w_block (t : Fin cfg0.N) (k : Fin 3) (j : Fin 5632) : (iblk m c 5 t : S3x5632.Idx → EReal) (ix2 k j) = (args m c).CW k j := by
  rw [← w_array]
  unfold iblk wArr
  exact (w_read t (V m c main_arg3) _).trans (congrArg (V m c main_arg3 : S3x5632.Idx → EReal) (w_emb t _))

theorem b_place (t : Fin cfg0.N) (x : S1x5632.Idx) (a : Fin 2) :
    ((win0_6.rect t).emb x a : Nat) = win0_6.index t a * win0_6.size a + (x a).val :=
  Pipeline.Window.rect_emb_val win0_6 t x a rfl

theorem b_emb (t : Fin cfg0.N) (x : S1x5632.Idx) : (win0_6.rect t).emb x = x := by
  funext a
  apply Fin.ext
  refine (b_place t x a).trans ?_
  rw [(whole_places t).2.2.2.1]
  match a with
  | 0 => exact zero_mul_add _ _
  | 1 => exact zero_mul_add _ _

theorem b_read (t : Fin cfg0.N) (X : S1x5632.Idx → EReal) (x : S1x5632.Idx) :
    ((win0_6.blk t).view.read (Elt Ideal) X) x = X ((win0_6.rect t).emb x) := rfl

theorem b_block (t : Fin cfg0.N) (j : Fin 5632) : (iblk m c 6 t : S1x5632.Idx → EReal) (ix2 (0 : Fin 1) j) = (args m c).CB j := by
  rw [← b_array]
  unfold iblk bArr
  exact (b_read t (V m c main_v2) _).trans (congrArg (V m c main_v2 : S1x5632.Idx → EReal) (b_emb t _))

theorem d_place (t : Fin cfg0.N) (x : S2816x1024.Idx) (a : Fin 2) :
    ((win0_7.rect t).emb x a : Nat) = win0_7.index t a * win0_7.size a + (x a).val :=
  Pipeline.Window.rect_emb_val win0_7 t x a rfl

theorem d_emb (t : Fin cfg0.N) (x : S2816x1024.Idx) : (win0_7.rect t).emb x = x := by
  funext a
  apply Fin.ext
  refine (d_place t x a).trans ?_
  rw [(whole_places t).2.2.2.2.1]
  match a with
  | 0 => exact zero_mul_add _ _
  | 1 => exact zero_mul_add _ _

theorem d_read (t : Fin cfg0.N) (X : S2816x1024.Idx → EReal) (x : S2816x1024.Idx) :
    ((win0_7.blk t).view.read (Elt Ideal) X) x = X ((win0_7.rect t).emb x) := rfl

theorem d_block (t : Fin cfg0.N) (j : Fin 2816) (e : Fin 1024) : (iblk m c 7 t : S2816x1024.Idx → EReal) (ix2 j e) = (args m c).WD j e := by
  rw [← d_array]
  unfold iblk dArr
  exact (d_read t (V m c main_v3) _).trans (congrArg (V m c main_v3 : S2816x1024.Idx → EReal) (d_emb t _))

theorem p_place (t : Fin cfg0.N) (x : S1x1024.Idx) (a : Fin 2) :
    ((win0_8.rect t).emb x a : Nat) = win0_8.index t a * win0_8.size a + (x a).val :=
  Pipeline.Window.rect_emb_val win0_8 t x a rfl

theorem p_emb (t : Fin cfg0.N) (x : S1x1024.Idx) : (win0_8.rect t).emb x = x := by
  funext a
  apply Fin.ext
  refine (p_place t x a).trans ?_
  rw [(whole_places t).2.2.2.2.2]
  match a with
  | 0 => exact zero_mul_add _ _
  | 1 => exact zero_mul_add _ _

theorem p_read (t : Fin cfg0.N) (X : S1x1024.Idx → EReal) (x : S1x1024.Idx) :
    ((win0_8.blk t).view.read (Elt Ideal) X) x = X ((win0_8.rect t).emb x) := rfl

theorem p_block (t : Fin cfg0.N) (e : Fin 1024) : (iblk m c 8 t : S1x1024.Idx → EReal) (ix2 (0 : Fin 1) e) = (args m c).GP e := by
  rw [← p_array]
  unfold iblk pArr
  exact (p_read t (V m c main_v4) _).trans (congrArg (V m c main_v4 : S1x1024.Idx → EReal) (p_emb t _))

end Cert.Ffn
end
-- ==== Proof.FfnChunk.lean ====
module

public import proofs.«01_k».proof.Proof.FfnReference
public import proofs.«01_k».proof.Proof.Gen.Kernel2Ideal.Skeleton

@[expose] public section

set_option maxRecDepth 16384

noncomputable section

namespace Cert.Ffn

open Cert.Kernel2Ideal Cert.Kernel2Ideal.Gen
open Idealize.ShloMosaic

/-! ## The body's values, by entries -/

/-- The rows a tile reads: eight of the tile before, its own, and eight of the tile after. -/
def rows (i : grid0.Coords) (v0 : Vec Ideal S1x512x1024 .f32) (v3 v8 : Vec Ideal S1x8x1024 .f32) : FVec Ideal S528x1024 .f32 :=
  concatenate S528x1024 0
    [⟨S8x1024, Scalar.select (Scalar.cmpi .sgt (BitVec.ofNat 32 (i 1).val) 0#32) (shapeCast S8x1024 v3 shapeCasts_S1x8x1024_S8x1024)
        (broadcast S8x1024 (Scalar.ofBits (F := Ideal) .f32 0x00000000#32))⟩,
      ⟨S512x1024, k0_pay2 v0⟩,
      ⟨S8x1024, Scalar.select (Scalar.cmpi .slt (BitVec.ofNat 32 (i 1).val) 31#32) (shapeCast S8x1024 v8 shapeCasts_S1x8x1024_S8x1024)
        (broadcast S8x1024 (Scalar.ofBits (F := Ideal) .f32 0x00000000#32))⟩]
    concatenates_S8x1024_S512x1024_S8x1024_S528x1024_d0

def unitRows (x : FVec Ideal S528x1024 .f32) (g : Vec Ideal S1x1024 .f32) : FVec Ideal S528x1024 .bf16 :=
  truncf .bf16 (mulf (mulf x (broadcastTo S528x1024 (rsqrt (addf (divf (shapeCast S528x1
      (multiReduction .add [1] S528 (mulf x x) 0x00000000#32 reduces_S528x1024_S528 (.inl rfl) rfl) shapeCasts_S528_S528x1)
      (broadcast S528x1 (Scalar.ofBits .f32 0x44800000#32))) (broadcast S528x1 (Scalar.ofBits .f32 0x358637BD#32))))
      broadcasts_S528x1_S528x1024)) (broadcastTo S528x1024 (shapeCast S1x1024 g shapeCasts_S1x1024_S1x1024) broadcasts_S1x1024_S528x1024))
    bitsLt_bf16_f32

theorem unitRows_eq (i : grid0.Coords) (v0 : Vec Ideal S1x512x1024 .f32) (v3 v8 : Vec Ideal S1x8x1024 .f32) (g : Vec Ideal S1x1024 .f32) :
    k0_pay3 i v0 v3 v8 g = unitRows (rows i v0 v3 v8) g := rfl

theorem unitRows_entry (x : FVec Ideal S528x1024 .f32) (g : FVec Ideal S1x1024 .f32) (r : Fin 528) (d : Fin 1024) :
    unitRows x g (ix2 r d) = rmsf (fun e => x (ix2 r e)) (fun e => g (ix2 (0 : Fin 1) e)) d := by
  unfold rmsf
  pointwise [unitRows]

def chunkDot (h : FVec Ideal S528x1024 .bf16) (w : FVec Ideal S1024x256 .bf16) : FVec Ideal S528x256 .f32 :=
  matmul dot_S528x1024_S1024x256_S528x256_1_0_0_1_n_n none h (shapeCast S1024x256 w shapeCasts_S1024x256_S1024x256)
    (constant S528x256 .f32 0x00000000#32)

theorem chunkDot_entry (h : FVec Ideal S528x1024 .bf16) (w : FVec Ideal S1024x256 .bf16) (r : Fin 528) (j : Fin 256) :
    chunkDot h w (ix2 r j) = ∑ d : Fin 1024, h (ix2 r d) * w (ix2 d j) := by
  pointwise [chunkDot]

def before (u : FVec Ideal S528x256 .f32) : FVec Ideal S512x256 .f32 :=
  extractStridedSlice S512x256 ![8, 0] (dynamicRotate 0 1#32 none u rotates_S528x256_d0) slices_S528x256_o8_0_S512x256

def after (u : FVec Ideal S528x256 .f32) : FVec Ideal S512x256 .f32 :=
  extractStridedSlice S512x256 ![8, 0] (dynamicRotate 0 527#32 none u rotates_S528x256_d0) slices_S528x256_o8_0_S512x256

def middle (u : FVec Ideal S528x256 .f32) : FVec Ideal S512x256 .f32 :=
  extractStridedSlice S512x256 ![8, 0] u slices_S528x256_o8_0_S512x256

theorem before_entry (u : FVec Ideal S528x256 .f32) (p : Fin 512) (j : Fin 256) :
    before u (ix2 p j) = u (ix2 ⟨7 + p.val, by omega⟩ j) := by
  have h : ∀ h, (⟨(8 + p.val + 528 - 1) % 528, h⟩ : Fin 528) = ⟨7 + p.val, by omega⟩ := fun _ => Fin.ext (by show (8 + p.val + 528 - 1) % 528 = 7 + p.val; omega)
  pointwise [before]
  rw [h]

theorem after_entry (u : FVec Ideal S528x256 .f32) (p : Fin 512) (j : Fin 256) :
    after u (ix2 p j) = u (ix2 ⟨9 + p.val, by omega⟩ j) := by
  have h : ∀ h, (⟨(8 + p.val + 528 - 527) % 528, h⟩ : Fin 528) = ⟨9 + p.val, by omega⟩ := fun _ => Fin.ext (by show (8 + p.val + 528 - 527) % 528 = 9 + p.val; omega)
  pointwise [after]
  rw [h]

theorem middle_entry (u : FVec Ideal S528x256 .f32) (p : Fin 512) (j : Fin 256) :
    middle u (ix2 p j) = u (ix2 ⟨8 + p.val, by omega⟩ j) := by
  pointwise [middle]

def combine (a m z : FVec Ideal S512x256 .f32) (cw : FVec Ideal S3x256 .f32) (cb : FVec Ideal S1x256 .f32) : FVec Ideal S512x256 .f32 :=
  addf (addf (addf (broadcastTo S512x256 (shapeCast S1x256 cb shapeCasts_S1x256_S1x256) broadcasts_S1x256_S512x256)
    (mulf a (broadcastTo S512x256 (extractStridedSlice S1x256 ![0, 0] cw slices_S3x256_o0_0_S1x256) broadcasts_S1x256_S512x256)))
    (mulf m (broadcastTo S512x256 (extractStridedSlice S1x256 ![1, 0] cw slices_S3x256_o1_0_S1x256) broadcasts_S1x256_S512x256)))
    (mulf z (broadcastTo S512x256 (extractStridedSlice S1x256 ![2, 0] cw slices_S3x256_o2_0_S1x256) broadcasts_S1x256_S512x256))

theorem combine_entry (a m z : FVec Ideal S512x256 .f32) (cw : FVec Ideal S3x256 .f32) (cb : FVec Ideal S1x256 .f32)
    (p : Fin 512) (j : Fin 256) : combine a m z cw cb (ix2 p j) = cb (ix2 (0 : Fin 1) j) + a (ix2 p j) * cw (ix2 (0 : Fin 3) j)
      + m (ix2 p j) * cw (ix2 (1 : Fin 3) j) + z (ix2 p j) * cw (ix2 (2 : Fin 3) j) := by
  pointwise [combine]

def chunkConv (u : FVec Ideal S528x256 .f32) (cw : FVec Ideal S3x256 .f32) (cb : FVec Ideal S1x256 .f32) : FVec Ideal S512x256 .f32 :=
  combine (before u) (middle u) (after u) cw cb

def word (w : BitVec 32) : FVec Ideal S512x256 .f32 := broadcast S512x256 (Scalar.ofBits (F := Ideal) .f32 w)

def chunkAct (a b : FVec Ideal S512x256 .f32) : FVec Ideal S512x256 .bf16 :=
  shapeCast S512x256 (truncf .bf16 (mulf (mulf (mulf (word 0x3F000000#32) a) (addf (word 0x3F800000#32) (tanh (mulf (word 0x3F4C422A#32)
    (addf a (mulf (word 0x3D372713#32) (mulf (mulf a a) a))))))) b) bitsLt_bf16_f32) shapeCasts_S512x256_S512x256

theorem chunkAct_entry (a b : FVec Ideal S512x256 .f32) (p : Fin 512) (j : Fin 256) :
    chunkAct a b (ix2 p j) = gelu (a (ix2 p j)) * b (ix2 p j) := by
  unfold gelu
  pointwise [chunkAct, word]

/-- What a chunk stores, from the normalised rows and the chunk's weights. -/
def chunk (h : FVec Ideal S528x1024 .bf16) (w : FVec Ideal S1024x256 .bf16) (cw : FVec Ideal S3x256 .f32) (cb : FVec Ideal S1x256 .f32)
    (w' : FVec Ideal S1024x256 .bf16) (cw' : FVec Ideal S3x256 .f32) (cb' : FVec Ideal S1x256 .f32) : FVec Ideal S512x256 .bf16 :=
  chunkAct (chunkConv (chunkDot h w) cw cb) (chunkConv (chunkDot h w') cw' cb')

def outDot (a : FVec Ideal S512x2816 .bf16) (w : FVec Ideal S2816x1024 .bf16) : FVec Ideal S512x1024 .f32 :=
  matmul dot_S512x2816_S2816x1024_S512x1024_1_0_0_1_n_n none a (shapeCast S2816x1024 w shapeCasts_S2816x1024_S2816x1024)
    (constant S512x1024 .f32 0x00000000#32)

theorem outDot_entry (a : FVec Ideal S512x2816 .bf16) (w : FVec Ideal S2816x1024 .bf16) (p : Fin 512) (e : Fin 1024) :
    outDot a w (ix2 p e) = ∑ j : Fin 2816, a (ix2 p j) * w (ix2 j e) := by
  pointwise [outDot]

def unitOut (x : FVec Ideal S512x1024 .f32) (g : FVec Ideal S1x1024 .f32) : FVec Ideal S512x1024 .f32 :=
  mulf (mulf x (broadcastTo S512x1024 (rsqrt (addf (divf (shapeCast S512x1
      (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32))))
      broadcasts_S512x1_S512x1024)) (broadcastTo S512x1024 (shapeCast S1x1024 g shapeCasts_S1x1024_S1x1024) broadcasts_S1x1024_S512x1024)

theorem unitOut_entry (x : FVec Ideal S512x1024 .f32) (g : FVec Ideal S1x1024 .f32) (p : Fin 512) (d : Fin 1024) :
    unitOut x g (ix2 p d) = rmsf (fun e => x (ix2 p e)) (fun e => g (ix2 (0 : Fin 1) e)) d := by
  unfold rmsf
  pointwise [unitOut]

theorem out_eq (v1 : FVec Ideal S512x1024 .f32) (a : Vec Ideal S512x2816 .bf16) (w : Vec Ideal S2816x1024 .bf16) (g : Vec Ideal S1x1024 .f32) :
    k0_pay51 v1 a w g = addf v1 (unitOut (outDot a w) g) := rfl

theorem rows_own (i : grid0.Coords) (v0 : FVec Ideal S1x512x1024 .f32) (v3 v8 : FVec Ideal S1x8x1024 .f32) (p : Fin 512) (d : Fin 1024) :
    rows i v0 v3 v8 (ix2 ⟨8 + p.val, by omega⟩ d) = v0 (ix3 (0 : Fin 1) p d) := by
  pointwise [rows, k0_pay2]

theorem first_bit : ∀ n : Fin 32, Scalar.cmpi .sgt (BitVec.ofNat 32 n.val) 0#32 = if n.val = 0 then 0#1 else 1#1 := by decide

theorem last_bit : ∀ n : Fin 32, Scalar.cmpi .slt (BitVec.ofNat 32 n.val) 31#32 = if n.val = 31 then 0#1 else 1#1 := by decide

theorem select_first (n : Fin 32) (a b : EReal) :
    Scalar.select (Scalar.cmpi .sgt (BitVec.ofNat 32 n.val) 0#32) a b = if n.val = 0 then b else a := by
  rw [first_bit]
  split <;> rfl

theorem select_last (n : Fin 32) (a b : EReal) :
    Scalar.select (Scalar.cmpi .slt (BitVec.ofNat 32 n.val) 31#32) a b = if n.val = 31 then b else a := by
  rw [last_bit]
  split <;> rfl

theorem rows_first (i : grid0.Coords) (v0 : FVec Ideal S1x512x1024 .f32) (v3 v8 : FVec Ideal S1x8x1024 .f32) (d : Fin 1024) :
    rows i v0 v3 v8 (ix2 (7 : Fin 528) d) = if (i 1).val = 0 then 0 else v3 (ix3 (0 : Fin 1) (7 : Fin 8) d) := by
  pointwise [rows]
  exact select_first (i 1) _ _

theorem rows_last (i : grid0.Coords) (v0 : FVec Ideal S1x512x1024 .f32) (v3 v8 : FVec Ideal S1x8x1024 .f32) (d : Fin 1024) :
    rows i v0 v3 v8 (ix2 (520 : Fin 528) d) = if (i 1).val = 31 then 0 else v8 (ix3 (0 : Fin 1) (0 : Fin 8) d) := by
  pointwise [rows]
  exact select_last (i 1) _ _

end Cert.Ffn
end
-- ==== Proof.FfnPieces.lean ====
module

public import proofs.«01_k».proof.Proof.FfnChunk
public import proofs.«01_k».proof.Proof.Steps
public import proofs.«01_k».proof.Proof.Gen.Kernel2Ideal.Value

@[expose] public section

set_option maxRecDepth 16384

noncomputable section

namespace Cert.Ffn

open Cert.Kernel2Ideal Cert.Kernel2Ideal.Gen
open Idealize.ShloMosaic Idealize.ShloMosaic.TcCoe

/-! ## What the body leaves, from the blocks it reads -/

theorem inbU (k : Fin 22) (a : Fin 2) : (![0, 256 * k.val] : Fin 2 → ℕ) a + S1024x256.size a ≤ S1024x5632.size a := by
  match a with
  | ⟨0, _⟩ => show 0 + 1024 ≤ 1024; omega
  | ⟨1, _⟩ => show 256 * k.val + 256 ≤ 5632; omega

theorem inbW (k : Fin 22) (a : Fin 2) : (![0, 256 * k.val] : Fin 2 → ℕ) a + S3x256.size a ≤ S3x5632.size a := by
  match a with
  | ⟨0, _⟩ => show 0 + 3 ≤ 3; omega
  | ⟨1, _⟩ => show 256 * k.val + 256 ≤ 5632; omega

theorem inbB (k : Fin 22) (a : Fin 2) : (![0, 256 * k.val] : Fin 2 → ℕ) a + S1x256.size a ≤ S1x5632.size a := by
  match a with
  | ⟨0, _⟩ => show 0 + 1 ≤ 1; omega
  | ⟨1, _⟩ => show 256 * k.val + 256 ≤ 5632; omega

theorem inbA (k : Fin 11) (a : Fin 2) : (![0, 256 * k.val] : Fin 2 → ℕ) a + S512x256.size a ≤ S512x2816.size a := by
  match a with
  | ⟨0, _⟩ => show 0 + 512 ≤ 512; omega
  | ⟨1, _⟩ => show 256 * k.val + 256 ≤ 2816; omega

def colsU (arg6 : Memref sig .tc .vmem S1024x5632 .bf16) (f : arg6.view.ty.Contents (Elt Ideal)) (k : Fin 22) : FVec Ideal S1024x256 .bf16 :=
  View.readAt (Elt Ideal) arg6.view (Rect.unit (s := S1024x5632) ![0, 256 * k.val] S1024x256.size (inbU k)).toLoadRect f

def colsW (arg7 : Memref sig .tc .vmem S3x5632 .f32) (f : arg7.view.ty.Contents (Elt Ideal)) (k : Fin 22) : FVec Ideal S3x256 .f32 :=
  View.readAt (Elt Ideal) arg7.view (Rect.unit (s := S3x5632) ![0, 256 * k.val] S3x256.size (inbW k)).toLoadRect f

def colsB (arg8 : Memref sig .tc .vmem S1x5632 .f32) (f : arg8.view.ty.Contents (Elt Ideal)) (k : Fin 22) : FVec Ideal S1x256 .f32 :=
  View.readAt (Elt Ideal) arg8.view (Rect.unit (s := S1x5632) ![0, 256 * k.val] S1x256.size (inbB k)).toLoadRect f

theorem colsU_entry (arg6 : Memref sig .tc .vmem S1024x5632 .bf16) (h : arg6.IsWhole) (X : FVec Ideal S1024x5632 .bf16) (k : Fin 22)
    (d : Fin 1024) (j : Fin 256) : colsU arg6 (h.unread X) k (ix2 d j) = X (ix2 d ⟨256 * k.val + j.val, by omega⟩) := by
  unfold colsU
  refine (Cert.Mla.readAt_unit (s := S1024x5632) arg6.view (inbU k) _ _ (ix2 d ⟨256 * k.val + j.val, by omega⟩) rfl fun a => ?_).trans
    (congrFun (h.read_unread (Val := Elt Ideal) X) _)
  match a with
  | ⟨0, _⟩ => exact (Nat.zero_add _).symm
  | ⟨1, _⟩ => rfl

theorem colsW_entry (arg7 : Memref sig .tc .vmem S3x5632 .f32) (h : arg7.IsWhole) (X : FVec Ideal S3x5632 .f32) (k : Fin 22)
    (d : Fin 3) (j : Fin 256) : colsW arg7 (h.unread X) k (ix2 d j) = X (ix2 d ⟨256 * k.val + j.val, by omega⟩) := by
  unfold colsW
  refine (Cert.Mla.readAt_unit (s := S3x5632) arg7.view (inbW k) _ _ (ix2 d ⟨256 * k.val + j.val, by omega⟩) rfl fun a => ?_).trans
    (congrFun (h.read_unread (Val := Elt Ideal) X) _)
  match a with
  | ⟨0, _⟩ => exact (Nat.zero_add _).symm
  | ⟨1, _⟩ => rfl

theorem colsB_entry (arg8 : Memref sig .tc .vmem S1x5632 .f32) (h : arg8.IsWhole) (X : FVec Ideal S1x5632 .f32) (k : Fin 22)
    (d : Fin 1) (j : Fin 256) : colsB arg8 (h.unread X) k (ix2 d j) = X (ix2 d ⟨256 * k.val + j.val, by omega⟩) := by
  unfold colsB
  refine (Cert.Mla.readAt_unit (s := S1x5632) arg8.view (inbB k) _ _ (ix2 d ⟨256 * k.val + j.val, by omega⟩) rfl fun a => ?_).trans
    (congrFun (h.read_unread (Val := Elt Ideal) X) _)
  match a with
  | ⟨0, _⟩ => exact (Nat.zero_add _).symm
  | ⟨1, _⟩ => rfl

/-- A load of a whole buffer reads what the buffer holds. -/
theorem load_whole {s : Shape} {e : EltTy} (r : Memref sig .tc .vmem s e) (h : r.IsWhole) (X : s.Idx → Elt Ideal e)
    {off : Fin s.rank → ℕ} (inb : ∀ a, off a + s.size a ≤ s.size a) (h0 : ∀ a, off a = 0) :
    (View.readAt (Elt Ideal) r.view (Rect.unit off s.size inb).toLoadRect (h.unread X) : s.Idx → Elt Ideal e) = X := by
  funext x
  refine (Cert.Mla.readAt_unit r.view inb _ _ x rfl fun a => ?_).trans (congrFun (h.read_unread X) _)
  rw [h0 a, Nat.zero_add]

variable (c : Dev nD) (i : grid0.Coords) (arg2 : Memref sig .tc .vmem S1x512x1024 .f32) (harg2 : arg2.IsWhole)
  (arg3 : Memref sig .tc .vmem S1x8x1024 .f32) (harg3 : arg3.IsWhole) (arg4 : Memref sig .tc .vmem S1x8x1024 .f32) (harg4 : arg4.IsWhole)
  (arg5 : Memref sig .tc .vmem S1x1024 .f32) (harg5 : arg5.IsWhole) (arg6 : Memref sig .tc .vmem S1024x5632 .bf16) (harg6 : arg6.IsWhole)
  (arg7 : Memref sig .tc .vmem S3x5632 .f32) (harg7 : arg7.IsWhole) (arg8 : Memref sig .tc .vmem S1x5632 .f32) (harg8 : arg8.IsWhole)
  (arg12 : Memref sig .tc .vmem S512x2816 .bf16)
  (x0 : Vec Ideal S1x512x1024 .f32) (x1 x2 : Vec Ideal S1x8x1024 .f32) (x3 : Vec Ideal S1x1024 .f32) (x4 : Vec Ideal S1024x5632 .bf16)
  (x5 : Vec Ideal S3x5632 .f32) (x6 : Vec Ideal S1x5632 .f32)

/-- The chunk `k` of the hidden columns. -/
def chunkOf (H : FVec Ideal S528x1024 .bf16) (k : Fin 11) : FVec Ideal S512x256 .bf16 :=
  chunk H (colsU arg6 (harg6.unread x4) ⟨k.val, by omega⟩) (colsW arg7 (harg7.unread x5) ⟨k.val, by omega⟩) (colsB arg8 (harg8.unread x6) ⟨k.val, by omega⟩)
    (colsU arg6 (harg6.unread x4) ⟨k.val + 11, by omega⟩) (colsW arg7 (harg7.unread x5) ⟨k.val + 11, by omega⟩)
    (colsB arg8 (harg8.unread x6) ⟨k.val + 11, by omega⟩)

theorem rows_loaded : kernelRun0_A.sl.r_1 (F := Ideal) c i arg2 harg2 arg3 harg3 arg4 harg4 arg5 harg5 x0 x1 x2 x3 = k0_pay3 i x0 x1 x2 x3 := by
  unfold kernelRun0_A.sl.r_1
  rw [load_whole arg2 harg2 x0 _ (by decide), load_whole arg3 harg3 x1 _ (by decide), load_whole arg4 harg4 x2 _ (by decide),
    load_whole arg5 harg5 x3 _ (by decide)]

theorem stores : kernelRun0_A.sl.HS0_11 (F := Ideal) c i arg2 harg2 arg3 harg3 arg4 harg4 arg5 harg5 arg6 harg6 arg7 harg7 arg8 harg8 x0 x1 x2 x3 x4 x5 x6
    = View.tilePieces (NT := 11) (s := S512x2816) (e := .bf16) S512x256.size (fun k => ![0, 256 * k.val]) inbA
        (fun k => chunkOf arg6 harg6 arg7 harg7 arg8 harg8 x4 x5 x6
          (kernelRun0_A.sl.r_1 (F := Ideal) c i arg2 harg2 arg3 harg3 arg4 harg4 arg5 harg5 x0 x1 x2 x3) k)
        11 (Nat.le_refl 11) := rfl

/-- The buffer of hidden columns as the second product reads it. -/
theorem hidden_read (p : Fin 512) (j : Fin 2816) :
    (kernelRun0_A.sl.v754 (F := Ideal) c i arg2 harg2 arg3 harg3 arg4 harg4 arg5 harg5 arg6 harg6 arg7 harg7 arg8 harg8 arg12 x0 x1 x2 x3 x4 x5 x6
      : S512x2816.Idx → EReal) (ix2 p j)
      = chunkOf arg6 harg6 arg7 harg7 arg8 harg8 x4 x5 x6 (k0_pay3 i x0 x1 x2 x3) ⟨j.val / 256, by omega⟩
          (ix2 p (⟨j.val % 256, Nat.mod_lt _ (by omega)⟩ : Fin 256)) := by
  unfold kernelRun0_A.sl.v754
  rw [stores, rows_loaded]
  unfold View.readCov
  refine (Cert.Mla.readAt_unit (s := S512x2816) arg12.view _ _ _ (ix2 p j) rfl fun a => ?_).trans ?_
  · match a with
    | ⟨0, _⟩ => exact (Nat.zero_add _).symm
    | ⟨1, _⟩ => exact (Nat.zero_add _).symm
  refine View.read_tilePieces (s := S512x2816) (e := .bf16) arg12.view _ S512x256.size (fun k : Fin 11 => ![0, 256 * k.val])
    inbA _ 11 (Nat.le_refl 11) (ix2 p j) ⟨j.val / 256, by omega⟩ (by show j.val / 256 < 11; omega)
    (ix2 p (⟨j.val % 256, Nat.mod_lt _ (by omega)⟩ : Fin 256)) ?_ (1 : Fin 2) ?_
  · intro a
    match a with
    | ⟨0, _⟩ => exact (Nat.zero_add _).symm
    | ⟨1, _⟩ => show j.val = 256 * (j.val / 256) + j.val % 256; omega
  · intro k hk
    have hne : k.val ≠ j.val / 256 := fun h => hk (Fin.ext h)
    show j.val < 256 * k.val ∨ 256 * k.val + 256 ≤ j.val
    omega

end Cert.Ffn
end
-- ==== Proof.FfnOutput.lean ====
module

public import proofs.«01_k».proof.Proof.FfnBlocks
public import proofs.«01_k».proof.Proof.FfnPieces
public import Idealize.ShloMosaic.Lib.Pipeline.ArrRel

@[expose] public section

set_option maxRecDepth 16384

noncomputable section

namespace Cert.Ffn

open Cert.Kernel2Ideal Cert.Kernel2Ideal.Gen
open Idealize.ShloMosaic Idealize.ShloMosaic.TcCoe

/-! ## What the body computes from its blocks -/

section Body

variable (A : Args) (b : Fin 2) (i : grid0.Coords) (x0 : FVec Ideal S1x512x1024 .f32) (x1 x2 : FVec Ideal S1x8x1024 .f32)
  (x3 : FVec Ideal S1x1024 .f32) (x4 : FVec Ideal S1024x5632 .bf16) (x5 : FVec Ideal S3x5632 .f32) (x6 : FVec Ideal S1x5632 .f32)
  (x7 : FVec Ideal S2816x1024 .bf16) (x8 : FVec Ideal S1x1024 .f32)

/-- The blocks the body reads are those of the arguments. -/
structure Reads : Prop where
  own : ∀ (p : Fin 512) (d : Fin 1024) (n : Fin 16384), n.val = 512 * (i 1).val + p.val → x0 (ix3 (0 : Fin 1) p d) = A.X b n d
  prev : ∀ (d : Fin 1024) (n : Fin 16384), n.val + 1 = 512 * (i 1).val → x1 (ix3 (0 : Fin 1) (7 : Fin 8) d) = A.X b n d
  next : ∀ (d : Fin 1024) (n : Fin 16384), n.val = 512 * (i 1).val + 512 → x2 (ix3 (0 : Fin 1) (0 : Fin 8) d) = A.X b n d
  g : ∀ d : Fin 1024, x3 (ix2 (0 : Fin 1) d) = A.G d
  u : ∀ (d : Fin 1024) (j : Fin 5632), x4 (ix2 d j) = A.WU d j
  w : ∀ (k : Fin 3) (j : Fin 5632), x5 (ix2 k j) = A.CW k j
  b : ∀ j : Fin 5632, x6 (ix2 (0 : Fin 1) j) = A.CB j
  d : ∀ (j : Fin 2816) (e : Fin 1024), x7 (ix2 j e) = A.WD j e
  p : ∀ e : Fin 1024, x8 (ix2 (0 : Fin 1) e) = A.GP e

variable {A b i x0 x1 x2 x3 x4 x5 x6 x7 x8} (R : Reads A b i x0 x1 x2 x3 x4 x5 x6 x7 x8)

include R in
theorem row_value (q : Fin 514) (d : Fin 1024) :
    rows i x0 x1 x2 (ix2 (⟨7 + q.val, by omega⟩ : Fin 528) d) = A.rowAt b (512 * (i 1).val + q.val) d := by
  have hi : (i 1).val < 32 := (i 1).isLt
  by_cases h0 : q.val = 0
  · have e : (⟨7 + q.val, by omega⟩ : Fin 528) = 7 := Fin.ext (by show 7 + q.val = 7; omega)
    rw [e, rows_first]
    by_cases hz : (i 1).val = 0
    · rw [if_pos hz, A.rowAt_outside b _ (by omega)]
    · rw [if_neg hz, R.prev d ⟨512 * (i 1).val - 1, by omega⟩ (by show 512 * (i 1).val - 1 + 1 = _; omega)]
      exact (A.rowAt_inside b _ _ (by show _ = 512 * (i 1).val - 1 + 1; omega) d).symm
  · by_cases h1 : q.val = 513
    · have e : (⟨7 + q.val, by omega⟩ : Fin 528) = 520 := Fin.ext (by show 7 + q.val = 520; omega)
      rw [e, rows_last]
      by_cases hz : (i 1).val = 31
      · rw [if_pos hz, A.rowAt_outside b _ (by omega)]
      · rw [if_neg hz, R.next d ⟨512 * (i 1).val + 512, by omega⟩ rfl]
        exact (A.rowAt_inside b _ _ (by show _ = 512 * (i 1).val + 512 + 1; omega) d).symm
    · have e : (⟨7 + q.val, by omega⟩ : Fin 528) = ⟨8 + (⟨q.val - 1, by omega⟩ : Fin 512).val, by show 8 + (q.val - 1) < 528; omega⟩ :=
        Fin.ext (by show 7 + q.val = 8 + (q.val - 1); omega)
      rw [e, rows_own, R.own ⟨q.val - 1, by omega⟩ d ⟨512 * (i 1).val + (q.val - 1), by omega⟩ rfl]
      exact (A.rowAt_inside b _ _ (by show _ = 512 * (i 1).val + (q.val - 1) + 1; omega) d).symm

include R in
theorem up_value (W : FVec Ideal S1024x256 .bf16) (q : Fin 514) (j : Fin 256) (J : Fin 5632)
    (hW : ∀ d : Fin 1024, W (ix2 d j) = A.WU d J) :
    chunkDot (k0_pay3 i x0 x1 x2 x3) W (ix2 (⟨7 + q.val, by omega⟩ : Fin 528) j) = A.upAt b (512 * (i 1).val + q.val) J := by
  rw [chunkDot_entry, unitRows_eq]
  refine Finset.sum_congr rfl fun d _ => ?_
  rw [hW, unitRows_entry]
  have e1 : (fun e => rows i x0 x1 x2 (ix2 (⟨7 + q.val, by omega⟩ : Fin 528) e)) = A.rowAt b (512 * (i 1).val + q.val) :=
    funext fun e => row_value R q e
  have e2 : (fun e => x3 (ix2 (0 : Fin 1) e)) = A.G := funext R.g
  rw [e1, e2]

include R in
theorem conv_value (W : FVec Ideal S1024x256 .bf16) (cw : FVec Ideal S3x256 .f32) (cb : FVec Ideal S1x256 .f32) (p : Fin 512) (j : Fin 256)
    (J : Fin 5632) (hW : ∀ d : Fin 1024, W (ix2 d j) = A.WU d J) (hw : ∀ k : Fin 3, cw (ix2 k j) = A.CW k J)
    (hb : cb (ix2 (0 : Fin 1) j) = A.CB J) :
    chunkConv (chunkDot (k0_pay3 i x0 x1 x2 x3) W) cw cb (ix2 p j) = A.convAt b (512 * (i 1).val + p.val) J := by
  unfold chunkConv
  have e0 := up_value R W ⟨p.val, by omega⟩ j J hW
  have e1 := up_value R W ⟨p.val + 1, by omega⟩ j J hW
  have e2 := up_value R W ⟨p.val + 2, by omega⟩ j J hW
  have f1 : (⟨8 + p.val, by omega⟩ : Fin 528) = ⟨7 + (p.val + 1), by omega⟩ := Fin.ext (by show 8 + p.val = 7 + (p.val + 1); omega)
  have f2 : (⟨9 + p.val, by omega⟩ : Fin 528) = ⟨7 + (p.val + 2), by omega⟩ := Fin.ext (by show 9 + p.val = 7 + (p.val + 2); omega)
  have n1 : 512 * (i 1).val + (p.val + 1) = 1 + (512 * (i 1).val + p.val) := by omega
  have n2 : 512 * (i 1).val + (p.val + 2) = 2 + (512 * (i 1).val + p.val) := by omega
  rw [combine_entry, before_entry, middle_entry, after_entry, f1, f2]
  unfold Args.convAt
  rw [hb, hw, hw, hw, ← n1, ← n2, ← e0, ← e1, ← e2]

end Body

section Point

variable (c : Dev nD) (i : grid0.Coords) (arg2 : Memref sig .tc .vmem S1x512x1024 .f32) (harg2 : arg2.IsWhole)
  (arg3 : Memref sig .tc .vmem S1x8x1024 .f32) (harg3 : arg3.IsWhole) (arg4 : Memref sig .tc .vmem S1x8x1024 .f32) (harg4 : arg4.IsWhole)
  (arg5 : Memref sig .tc .vmem S1x1024 .f32) (harg5 : arg5.IsWhole) (arg6 : Memref sig .tc .vmem S1024x5632 .bf16) (harg6 : arg6.IsWhole)
  (arg7 : Memref sig .tc .vmem S3x5632 .f32) (harg7 : arg7.IsWhole) (arg8 : Memref sig .tc .vmem S1x5632 .f32) (harg8 : arg8.IsWhole)
  (arg9 : Memref sig .tc .vmem S2816x1024 .bf16) (harg9 : arg9.IsWhole) (arg10 : Memref sig .tc .vmem S1x1024 .f32) (harg10 : arg10.IsWhole)
  (arg11 : Memref sig .tc .vmem S1x512x1024 .f32) (harg11 : arg11.IsWhole) (arg12 : Memref sig .tc .vmem S512x2816 .bf16) (harg12 : arg12.IsWhole)
  {A : Args} {b : Fin 2} {x0 : FVec Ideal S1x512x1024 .f32} {x1 x2 : FVec Ideal S1x8x1024 .f32}
  {x3 : FVec Ideal S1x1024 .f32} {x4 : FVec Ideal S1024x5632 .bf16} {x5 : FVec Ideal S3x5632 .f32} {x6 : FVec Ideal S1x5632 .f32}
  {x7 : FVec Ideal S2816x1024 .bf16} {x8 : FVec Ideal S1x1024 .f32} (R : Reads A b i x0 x1 x2 x3 x4 x5 x6 x7 x8)

include R in
/-- A chunk of the hidden columns holds the layer's hidden entries. -/
theorem chunk_value (p : Fin 512) (j : Fin 2816) :
    chunkOf arg6 harg6 arg7 harg7 arg8 harg8 x4 x5 x6 (k0_pay3 i x0 x1 x2 x3) ⟨j.val / 256, by omega⟩
          (ix2 p (⟨j.val % 256, Nat.mod_lt _ (by omega)⟩ : Fin 256)) = A.hiddenAt b (512 * (i 1).val + p.val) j := by
  have eg : ∀ h, (⟨256 * (j.val / 256) + j.val % 256, h⟩ : Fin 5632) = ⟨j.val, by omega⟩ := fun h =>
    Fin.ext (by show 256 * (j.val / 256) + j.val % 256 = j.val; omega)
  have eu : ∀ h, (⟨256 * (j.val / 256 + 11) + j.val % 256, h⟩ : Fin 5632) = ⟨2816 + j.val, by omega⟩ := fun h =>
    Fin.ext (by show 256 * (j.val / 256 + 11) + j.val % 256 = 2816 + j.val; omega)
  unfold chunkOf chunk Args.hiddenAt
  rw [chunkAct_entry,
    conv_value R _ _ _ p ⟨j.val % 256, Nat.mod_lt _ (by omega)⟩ ⟨j.val, by omega⟩
      (fun d => by rw [colsU_entry, eg]; exact R.u d _) (fun k => by rw [colsW_entry, eg]; exact R.w k _)
      (by rw [colsB_entry, eg]; exact R.b _),
    conv_value R _ _ _ p ⟨j.val % 256, Nat.mod_lt _ (by omega)⟩ ⟨2816 + j.val, by omega⟩
      (fun d => by rw [colsU_entry, eu]; exact R.u d _) (fun k => by rw [colsW_entry, eu]; exact R.w k _)
      (by rw [colsB_entry, eu]; exact R.b _)]

theorem own_rows (x : FVec Ideal S1x512x1024 .f32) (p : Fin 512) (d : Fin 1024) : k0_pay2 x (ix2 p d) = x (ix3 (0 : Fin 1) p d) := by
  pointwise [k0_pay2]

theorem stored (x : FVec Ideal S512x1024 .f32) (p : Fin 512) (d : Fin 1024) : k0_pay1 x (ix3 (0 : Fin 1) p d) = x (ix2 p d) := by
  pointwise [k0_pay1]

/-- The entries of the block the body leaves, over the buffer of hidden columns it reads. -/
theorem body_term (H : FVec Ideal S512x2816 .bf16) (p : Fin 512) (e : Fin 1024) :
    (k0_pay1 (F := Ideal) (k0_pay51 (k0_pay2 x0) H x7 x8) : S1x512x1024.Idx → EReal) (ix3 (0 : Fin 1) p e)
      = x0 (ix3 (0 : Fin 1) p e) + rmsf (fun e => ∑ j : Fin 2816, H (ix2 p j) * x7 (ix2 j e)) (fun e => x8 (ix2 (0 : Fin 1) e)) e := by
  rw [stored, out_eq]
  show k0_pay2 x0 (ix2 p e) + unitOut (outDot H x7) x8 (ix2 p e) = _
  rw [own_rows, unitOut_entry]
  have h : (fun e => outDot H x7 (ix2 p e)) = fun e => ∑ j : Fin 2816, H (ix2 p j) * x7 (ix2 j e) := funext fun e => outDot_entry H x7 p e
  rw [h]

include R in
theorem body_value (H : FVec Ideal S512x2816 .bf16) (hH : ∀ (p : Fin 512) (j : Fin 2816), H (ix2 p j) = A.hiddenAt b (512 * (i 1).val + p.val) j)
    (p : Fin 512) (e : Fin 1024) (n : Fin 16384) (hn : n.val = 512 * (i 1).val + p.val) :
    (k0_pay1 (F := Ideal) (k0_pay51 (k0_pay2 x0) H x7 x8) : S1x512x1024.Idx → EReal) (ix3 (0 : Fin 1) p e) = A.outAt b n e := by
  rw [body_term, R.own p e n hn]
  unfold Args.outAt
  have e1 : (fun e => ∑ j : Fin 2816, H (ix2 p j) * x7 (ix2 j e)) = A.downAt b n.val := funext fun e => by
    unfold Args.downAt
    refine Finset.sum_congr rfl fun j _ => ?_
    rw [hH, R.d, hn]
  have e2 : (fun e => x8 (ix2 (0 : Fin 1) e)) = A.GP := funext R.p
  rw [e1, e2]

include R in
theorem out_value (p : Fin 512) (e : Fin 1024) (n : Fin 16384) (hn : n.val = 512 * (i 1).val + p.val) :
    (out0_A_9 (F := Ideal) c i arg2 harg2 arg3 harg3 arg4 harg4 arg5 harg5 arg6 harg6 arg7 harg7 arg8 harg8 arg9 harg9 arg10 harg10 arg11 harg11
      arg12 harg12 x0 x1 x2 x3 x4 x5 x6 x7 x8 : S1x512x1024.Idx → EReal) (ix3 (0 : Fin 1) p e) = A.outAt b n e := by
  unfold out0_A_9 kernelRun0_A
  dsimp only
  unfold kernelRun0_A.sl.r_38
  refine (View.read_writes_cons_unit_of_mem (Val := Elt Ideal) (s := S1x512x1024) (e := .f32) VO0_9 _ _ _ _ (ix3 (0 : Fin 1) p e) (ix3 (0 : Fin 1) p e) rfl ?_).trans ?_
  · intro a
    match a with
    | ⟨0, _⟩ => exact (Nat.zero_add _).symm
    | ⟨1, _⟩ => exact (Nat.zero_add _).symm
    | ⟨2, _⟩ => exact (Nat.zero_add _).symm
  rw [load_whole arg9 harg9 x7 _ (by decide), load_whole arg10 harg10 x8 _ (by decide)]
  unfold kernelRun0_A.sl.r
  rw [load_whole arg2 harg2 x0 _ (by decide)]
  exact body_value i R _ (fun p j => (hidden_read c i arg2 harg2 arg3 harg3 arg4 harg4 arg5 harg5 arg6 harg6 arg7 harg7 arg8 harg8 arg12
    x0 x1 x2 x3 x4 x5 x6 p j).trans (chunk_value i arg6 harg6 arg7 harg7 arg8 harg8 R p j)) p e n hn

end Point

/-! ## The array of results -/

variable (m : (ℓ : Loc nD τ sig) → Buf (Elt Ideal) ℓ) (c : Dev nD)

theorem reads (t : Fin cfg0.N) : Reads (args m c) (bOf t) (grid0.coords t) (iblk m c 0 t) (iblk m c 1 t) (iblk m c 2 t) (iblk m c 3 t)
    (iblk m c 4 t) (iblk m c 5 t) (iblk m c 6 t) (iblk m c 7 t) (iblk m c 8 t) := by
  have hi := (places t).2.2.2.2
  refine ⟨fun p d n hn => ?_, fun d n hn => ?_, fun d n hn => ?_, g_block m c t, u_block m c t, w_block m c t, b_block m c t, d_block m c t, p_block m c t⟩
  · rw [hi] at hn
    have e : n = ⟨512 * (t.val % 32) + p.val, by omega⟩ := Fin.ext hn
    rw [e]
    exact x_block m c t p d
  · rw [hi] at hn
    have e : n = ⟨512 * (t.val % 32) - 1, by omega⟩ := Fin.ext (by show n.val = 512 * (t.val % 32) - 1; omega)
    rw [e]
    exact prev_block m c t (by omega) d
  · rw [hi] at hn
    have hn' : n.val < 16384 := n.isLt
    have e : n = ⟨512 * (t.val % 32) + 512, by omega⟩ := Fin.ext hn
    rw [e]
    exact next_block m c t (by omega) d

/-- The result of the layer, as an array. -/
def outE : S2x16384x1024.Idx → EReal := Reference.result (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

theorem covers : (cfg0.win 9).Covers := by decide +kernel

theorem out_place (t : Fin cfg0.N) (x : S1x512x1024.Idx) (a : Fin 3) :
    ((win0_9.rect t).emb x a : Nat) = win0_9.index t a * win0_9.size a + (x a).val :=
  Pipeline.Window.rect_emb_val win0_9 t x a rfl

theorem out_emb (t : Fin cfg0.N) (p : Fin 512) (d : Fin 1024) :
    (win0_9.rect t).emb (ix3 (0 : Fin 1) p d : S1x512x1024.Idx) = (ix3 (bOf t) ⟨512 * (t.val % 32) + p.val, by omega⟩ d : S2x16384x1024.Idx) := by
  have hp := (places t).2.2.2.1
  funext a
  apply Fin.ext
  refine (out_place t _ a).trans ?_
  rw [hp]
  match a with
  | 0 => show t.val / 32 * 1 + 0 = t.val / 32; omega
  | 1 => show t.val % 32 * 512 + p.val = 512 * (t.val % 32) + p.val; omega
  | 2 => exact zero_mul_add _ _

theorem block_entry (t : Fin cfg0.N) (p : Fin 512) (d : Fin 1024) :
    (outsAt0 m c t : S1x512x1024.Idx → EReal) (ix3 (0 : Fin 1) p d) = outE m c ((win0_9.rect t).emb (ix3 (0 : Fin 1) p d : S1x512x1024.Idx)) := by
  rw [out_emb]
  unfold outE outsAt0
  refine (out_value c (grid0.coords t) _ _ _ _ _ _ _ _ _ _ _ _ _ _ _ _ _ _ _ _ _ _ (reads m c t) p d ⟨512 * (t.val % 32) + p.val, by omega⟩
    (by rw [(places t).2.2.2.2])).trans ?_
  exact (reference_value _ _ _ _ _ _ _ _ _ _).symm

theorem block_value (t : Fin cfg0.N) (y : S1x512x1024.Idx) : (outsAt0 m c t : S1x512x1024.Idx → EReal) y = outE m c ((win0_9.rect t).emb y) := by
  have ey : (ix3 (0 : Fin 1) (y 1) (y 2) : S1x512x1024.Idx) = y :=
    ((eq_ix3 y).trans (congrArg (fun z : Fin 1 => (ix3 z (y 1) (y 2) : S1x512x1024.Idx)) (Subsingleton.elim _ _))).symm
  exact Eq.subst (motive := fun y => (outsAt0 m c t : S1x512x1024.Idx → EReal) y = outE m c ((win0_9.rect t).emb y)) ey (block_entry m c t (y 1) (y 2))

/-- After the launch the array of results holds the result of the layer. -/
theorem result_array : (dats m 0 c).arrAt 9 cfg0.N = outE m c := by
  refine Pipeline.Dat.arrAt_eq_of_covers _ 9 _ covers fun t hf y => ?_
  exact (congrFun (Value.flushed9 m c t) y).trans (block_value m c t y)

end Cert.Ffn
end
-- ==== Proof.lean ====
/- The attention from its queries, keys and values, and the feed-forward half of the layer: the frames of the kernels
   and of the references, and the kernels' results against the references'. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Launch
public import proofs.«01_k».proof.Proof.Against
public import proofs.«01_k».proof.Proof.FfnOutput

@[expose] public section

noncomputable section

namespace Cert.Proof

open Idealize.ShloMosaic Idealize.ShloMosaic.TcCoe Idealize.SL.Sem

theorem frame_ideal : Cert.quiescent_KernelIdeal (hKernelIdeal := Cert.KernelIdeal.Gen.facts) :=
  fun m ρ _ => Cert.Mla.frame_run m ρ

/-- The two programs have one body text, -/
theorem bodies : @Cert.Kernel.cc0_mla_flash Bits _ Cert.Kernel.Gen.facts
    = @Cert.KernelIdeal.cc0_mla_flash Bits _ Cert.KernelIdeal.Gen.facts := rfl

/-- so one table of bodies, -/
theorem tables : @Cert.Kernel.defs₀ Bits _ Cert.Kernel.Gen.facts
    = @Cert.KernelIdeal.defs₀ Bits _ Cert.KernelIdeal.Gen.facts := by
  unfold Cert.Kernel.defs₀ Cert.KernelIdeal.defs₀
  refine congrArg Defs.onTc (funext fun p => funext fun a => ?_)
  match p, a with
  | 0, (t, s) => rfl

theorem mains : @Cert.Kernel.main Bits _ Cert.Kernel.Gen.facts
    = @Cert.KernelIdeal.main Bits _ Cert.KernelIdeal.Gen.facts := rfl

theorem all_tables : @Cert.Kernel.defs Bits _ Cert.Kernel.Gen.facts
    = @Cert.KernelIdeal.defs Bits _ Cert.KernelIdeal.Gen.facts := by
  unfold Cert.Kernel.defs Cert.KernelIdeal.defs
  exact congrArg (Pipeline.defs (fun p => (@Cert.KernelIdeal.cfgs Cert.KernelIdeal.Gen.facts p).toPCfg)) tables

/-- so the run of one is the run of the other. -/
theorem frame_kernel : Cert.quiescent_Kernel (hKernel := Cert.Kernel.Gen.facts) := by
  unfold Cert.quiescent_Kernel
  rw [all_tables, mains]
  exact fun m ρ _ => Cert.Mla.frame_run (F := Bits) m ρ

theorem frame_reference : Cert.quiescent_ReferenceIdeal (hReferenceIdeal := Cert.ReferenceIdeal.Gen.facts) :=
  fun m ρ _ => (θ_run Cert.ReferenceIdeal.defs _ _).mono (fun _ h => ⟨fun c => (h c).2, Idealize.ShloMosaic.sem_eq_zero_of_no_sems (by decide) _⟩)
    (Cert.ReferenceIdeal.Value.run m ρ)

/-- On finite queries and keys the two results are one array. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hf := fun c b n h d => Cert.Mla.finite_entries _ _ _ (hpre c) (ix4 b n h d)
  choose qr hqr using fun c b n h d => (hf c b n h d).1
  choose kr hkr using fun c b n h d => (hf c b n h d).2
  refine ⟨fun c => Cert.Mla.outE m c (qr c) (kr c), ?_, ?_⟩
  · refine (θ_run Cert.KernelIdeal.defs _ _).mono (fun r hr c => ⟨Cert.Mla.result_array qr kr hqr hkr hr.1 c, Cert.Mla.args_kept hr.1 c⟩)
      (Cert.Mla.run m g fun c => Cert.Mla.sysOf (hqr c) (hkr c))
  · refine (θ_run Cert.ReferenceIdeal.defs _ _).mono (fun r hr c => ⟨(hr c).1.trans ?_, (hr c).2⟩) (Cert.ReferenceIdeal.Value.run m' g')
    obtain ⟨e0, e1, e2⟩ := hargs c
    rw [e0, e1, e2]
    funext y
    refine (congrArg _ (eq_ix3 y)).trans ?_
    exact Cert.Mla.reference_value _ _ _ (qr c) (kr c) (hqr c) (hkr c) (y 0) (y 1) (y 2)

theorem frame2_ideal : Cert.quiescent_Kernel2Ideal (hKernel2Ideal := Cert.Kernel2Ideal.Gen.facts) :=
  fun m ρ _ => Cert.Kernel2Ideal.Gen.frame m ρ

theorem bodies2 : @Cert.Kernel2.cc0_conv_ffn Bits _ Cert.Kernel2.Gen.facts
    = @Cert.Kernel2Ideal.cc0_conv_ffn Bits _ Cert.Kernel2Ideal.Gen.facts := rfl

theorem tables2 : @Cert.Kernel2.defs₀ Bits _ Cert.Kernel2.Gen.facts
    = @Cert.Kernel2Ideal.defs₀ Bits _ Cert.Kernel2Ideal.Gen.facts := by
  unfold Cert.Kernel2.defs₀ Cert.Kernel2Ideal.defs₀
  refine congrArg Defs.onTc (funext fun p => funext fun a => ?_)
  match p, a with
  | 0, (t, s) => rfl

theorem mains2 : @Cert.Kernel2.main Bits _ Cert.Kernel2.Gen.facts
    = @Cert.Kernel2Ideal.main Bits _ Cert.Kernel2Ideal.Gen.facts := rfl

theorem all_tables2 : @Cert.Kernel2.defs Bits _ Cert.Kernel2.Gen.facts
    = @Cert.Kernel2Ideal.defs Bits _ Cert.Kernel2Ideal.Gen.facts := by
  unfold Cert.Kernel2.defs Cert.Kernel2Ideal.defs
  exact congrArg (Pipeline.defs (fun p => (@Cert.Kernel2Ideal.cfgs Cert.Kernel2Ideal.Gen.facts p).toPCfg)) tables2

theorem frame2_kernel : Cert.quiescent_Kernel2 (hKernel2 := Cert.Kernel2.Gen.facts) := by
  unfold Cert.quiescent_Kernel2
  rw [all_tables2, mains2]
  exact fun m ρ _ => Cert.Kernel2Ideal.Gen.frame (F := Bits) m ρ

theorem frame2_reference : Cert.quiescent_Reference2Ideal (hReference2Ideal := Cert.Reference2Ideal.Gen.facts) :=
  fun m ρ _ => (θ_run Cert.Reference2Ideal.defs _ _).mono (fun _ h => ⟨fun c => (h c).2, Idealize.ShloMosaic.sem_eq_zero_of_no_sems (by decide) _⟩)
    (Cert.Reference2Ideal.Value.run m ρ)

/-- The two feed-forward halves are one array. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Ffn.outE m c, ?_, ?_⟩
  · exact (θ_run Cert.Kernel2Ideal.defs _ _).mono (fun r hr c => ⟨(hr c).1.trans (Cert.Ffn.result_array m c), (hr c).2⟩)
      (Cert.Kernel2Ideal.Value.run_blocks m g)
  · refine (θ_run Cert.Reference2Ideal.defs _ _).mono (fun r hr c => ⟨(hr c).1.trans ?_, (hr c).2⟩) (Cert.Reference2Ideal.Value.run m' g')
    obtain ⟨e0, e1, e2, e3, e4, e5, e6⟩ := hargs c
    rw [Cert.Ffn.Reference.result_term, e0, e1, e2, e3, e4, e5, e6]
    rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_finite.Gen.facts,
    frame_kernel, frame_ideal, fun m ρ _ => frame_ideal m ρ trivial, frame_reference, fun m ρ _ => frame_reference m ρ trivial,
    frame2_kernel, frame2_ideal, frame2_reference, trivial, algebraic, trivial, algebraic2⟩

end Cert.Proof

end
